-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_have_max [hPre_logits_have_max : Cert.Pre_logits_have_max.Facts] (m : (ℓ : Loc Cert.KernelIdeal.nD Cert.KernelIdeal.τ Cert.KernelIdeal.sig) → Buf (Elt Ideal) ℓ) : Prop :=
  ∀ c : Dev Cert.KernelIdeal.nD,
    (Cert.Pre_logits_have_max.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_have_max [hPre_logits_have_max : Cert.Pre_logits_have_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_have_max.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_logits_have_max [hKernelIdeal : Cert.KernelIdeal.Facts] [hPre_logits_have_max : Cert.Pre_logits_have_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_have_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_logits_have_max [hReferenceIdeal : Cert.ReferenceIdeal.Facts] [hPre_logits_have_max : Cert.Pre_logits_have_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_have_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_logits_have_max [hKernelIdeal : Cert.KernelIdeal.Facts] [hReferenceIdeal : Cert.ReferenceIdeal.Facts] [hPre_logits_have_max : Cert.Pre_logits_have_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_have_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_logits_have_max : Cert.Pre_logits_have_max.Facts),
    quiescent_Kernel (hKernel := hKernel)
    ∧ quiescent_KernelIdeal (hKernelIdeal := hKernelIdeal)
    ∧ quiescent_KernelIdeal_pre_logits_have_max (hKernelIdeal := hKernelIdeal) (hPre_logits_have_max := hPre_logits_have_max)
    ∧ quiescent_ReferenceIdeal (hReferenceIdeal := hReferenceIdeal)
    ∧ quiescent_ReferenceIdeal_pre_logits_have_max (hReferenceIdeal := hReferenceIdeal) (hPre_logits_have_max := hPre_logits_have_max)
    ∧ preserves_Kernel_KernelIdeal
    ∧ algebraic_KernelIdeal_ReferenceIdeal_pre_logits_have_max (hKernelIdeal := hKernelIdeal) (hReferenceIdeal := hReferenceIdeal) (hPre_logits_have_max := hPre_logits_have_max)
-- ==== Pre_logits_have_max.lean ====
abbrev S2x4096x64 : Shape := ⟨3, ![2, 4096, 64]⟩
abbrev S2x4096x100 : Shape := ⟨3, ![2, 4096, 100]⟩
abbrev S4096x100 : Shape := ⟨2, ![4096, 100]⟩
abbrev S4096 : Shape := ⟨1, ![4096]⟩
abbrev S100x64 : Shape := ⟨2, ![100, 64]⟩
abbrev S100000x64 : Shape := ⟨2, ![100000, 64]⟩
abbrev S100000x100 : Shape := ⟨2, ![100000, 100]⟩
abbrev S_ : Shape := ⟨0, ![]⟩
abbrev S2x4096 : Shape := ⟨2, ![2, 4096]⟩

class Facts : Prop where
  bcast_S_S2x4096x100 : S_.BroadcastsInDim S2x4096x100 (![] : Fin 0 → Fin S2x4096x100.rank)
  reducesTo_S2x4096x100_S_d0_1_2 : S2x4096x100.ReducesTo [0, 1, 2] S_
  h_S_ : 0 < S_.numel
  reducesTo_S2x4096x100_S2x4096_d2 : S2x4096x100.ReducesTo [2] S2x4096
  bcast_S_S2x4096 : S_.BroadcastsInDim S2x4096 (![] : Fin 0 → Fin S2x4096.rank)
  reducesTo_S2x4096_S_d0_1 : S2x4096.ReducesTo [0, 1] S_

variable [Facts]

def fn {F : FTy → Type} [FloatOps F] (main_arg0 : FVec F S2x4096x64 .f32) (main_arg1 : FVec F S2x4096x100 .f32) (main_arg2 : FVec F S4096x100 .f32) (main_arg3 : IVec S4096 32) (main_arg4 : FVec F S100x64 .f32) (main_arg5 : FVec F S100000x64 .f32) (main_arg6 : FVec F S100000x100 .f32) : IVec S_ 1 :=
  let main_cst : FVec F S_ .f32 := constant S_ .f32 0x7F800000#32
  let main_v0 : FVec F S2x4096x100 .f32 := broadcastInDim S2x4096x100 ![] bcast_S_S2x4096x100 main_cst
  let main_v1 : IVec S2x4096x100 1 := cmpf .olt main_arg1 main_v0
  let main_c : IVec S_ 1 := constantI S_ 1 1#1
  let main_v2 : IVec S_ 1 := (fun x v => Host.reduce IntOp.andi x v reducesTo_S2x4096x100_S_d0_1_2 h_S_) main_v1 main_c
  let main_cst_0 : FVec F S_ .f32 := constant S_ .f32 0xFF800000#32
  let main_v3 : FVec F S2x4096 .f32 := (fun x v => Host.reduce FloatOps.maximumf x v reducesTo_S2x4096x100_S2x4096_d2 h_S_) main_arg1 main_cst_0
  let main_cst_1 : FVec F S_ .f32 := constant S_ .f32 0xFF800000#32
  let main_v4 : FVec F S2x4096 .f32 := broadcastInDim S2x4096 ![] bcast_S_S2x4096 main_cst_1
  let main_v5 : IVec S2x4096 1 := cmpf .ogt main_v3 main_v4
  let main_c_2 : IVec S_ 1 := constantI S_ 1 1#1
  let main_v6 : IVec S_ 1 := (fun x v => Host.reduce IntOp.andi x v reducesTo_S2x4096_S_d0_1 h_S_) main_v5 main_c_2
  let main_v7 : IVec S_ 1 := andi main_v2 main_v6
  main_v7
-- ==== Kernel.lean ====
abbrev S2x4096x64 : Shape := ⟨3, ![2, 4096, 64]⟩
abbrev S2x4096x100 : Shape := ⟨3, ![2, 4096, 100]⟩
abbrev S4096x100 : Shape := ⟨2, ![4096, 100]⟩
abbrev S4096 : Shape := ⟨1, ![4096]⟩
abbrev S100x64 : Shape := ⟨2, ![100, 64]⟩
abbrev S100000x64 : Shape := ⟨2, ![100000, 64]⟩
abbrev S100000x100 : Shape := ⟨2, ![100000, 100]⟩
abbrev S2x64x4096 : Shape := ⟨3, ![2, 64, 4096]⟩
abbrev S100x4096 : Shape := ⟨2, ![100, 4096]⟩
abbrev S64x100 : Shape := ⟨2, ![64, 100]⟩
abbrev S100x4096x2 : Shape := ⟨3, ![100, 4096, 2]⟩
abbrev S100x32x128x2 : Shape := ⟨4, ![100, 32, 128, 2]⟩
abbrev S100x32x2x128 : Shape := ⟨4, ![100, 32, 2, 128]⟩
abbrev S100x64x128 : Shape := ⟨3, ![100, 64, 128]⟩
abbrev S1 : Shape := ⟨1, ![1]⟩
abbrev S2x64x512 : Shape := ⟨3, ![2, 64, 512]⟩
abbrev S100x8x128 : Shape := ⟨3, ![100, 8, 128]⟩
abbrev S100x512 : Shape := ⟨2, ![100, 512]⟩
abbrev S8 : Shape := ⟨1, ![8]⟩
abbrev S512 : Shape := ⟨1, ![512]⟩
abbrev S1x512 : Shape := ⟨2, ![1, 512]⟩
abbrev S4x128 : Shape := ⟨2, ![4, 128]⟩
abbrev S8x4 : Shape := ⟨2, ![8, 4]⟩
abbrev S8x128 : Shape := ⟨2, ![8, 128]⟩
abbrev S1x8x128 : Shape := ⟨3, ![1, 8, 128]⟩
abbrev S1x1x1 : Shape := ⟨3, ![1, 1, 1]⟩
abbrev S64x512 : Shape := ⟨2, ![64, 512]⟩
abbrev S1x64x512 : Shape := ⟨3, ![1, 64, 512]⟩

abbrev nBuf : Space → Nat
  | .hbm => 15
  | .vmem => 7
  | .smem => 2
  | _ => 0

abbrev bufTy : (tb : Table) → Fin (tcTables nBuf tb) → BufTy
  | .hbm, ⟨0, _⟩ => ⟨S2x4096x64, .f32⟩
  | .hbm, ⟨1, _⟩ => ⟨S2x4096x100, .f32⟩
  | .hbm, ⟨2, _⟩ => ⟨S4096x100, .f32⟩
  | .hbm, ⟨3, _⟩ => ⟨S4096, .i32⟩
  | .hbm, ⟨4, _⟩ => ⟨S100x64, .f32⟩
  | .hbm, ⟨5, _⟩ => ⟨S100000x64, .f32⟩
  | .hbm, ⟨6, _⟩ => ⟨S100000x100, .f32⟩
  | .hbm, ⟨7, _⟩ => ⟨S2x64x4096, .f32⟩
  | .hbm, ⟨8, _⟩ => ⟨S100x4096, .f32⟩
  | .hbm, ⟨9, _⟩ => ⟨S64x100, .f32⟩
  | .hbm, ⟨10, _⟩ => ⟨S100x4096x2, .f32⟩
  | .hbm, ⟨11, _⟩ => ⟨S100x32x128x2, .f32⟩
  | .hbm, ⟨12, _⟩ => ⟨S100x32x2x128, .f32⟩
  | .hbm, ⟨13, _⟩ => ⟨S100x64x128, .f32⟩
  | .hbm, ⟨14, _⟩ => ⟨S1, .f32⟩
  | .local _ .vmem, ⟨0, _⟩ => ⟨S2x64x512, .f32⟩
  | .local _ .vmem, ⟨1, _⟩ => ⟨S2x64x512, .f32⟩
  | .local _ .vmem, ⟨2, _⟩ => ⟨S100x8x128, .f32⟩
  | .local _ .vmem, ⟨3, _⟩ => ⟨S100x8x128, .f32⟩
  | .local _ .vmem, ⟨4, _⟩ => ⟨S100x512, .f32⟩
  | .local _ .vmem, ⟨5, _⟩ => ⟨S100x512, .f32⟩
  | .local _ .vmem, ⟨6, _⟩ => ⟨S64x100, .f32⟩
  | .local _ .smem, ⟨0, _⟩ => ⟨S1, .f32⟩
  | .local _ .smem, ⟨1, _⟩ => ⟨S8, .f32⟩
  | _, _ => ⟨S2x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v182 : BitVec 1 := Scalar.cmpi .eq arg0 c7_i32
  let v183 : BitVec 32 := Scalar.extui v182
  let c0_i32_58 : BitVec 32 := 0#32
  let v184 : BitVec 1 := Scalar.cmpi .ne v183 c0_i32_58
  v184

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S100x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S100x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2x4096x64 : Shape := ⟨3, ![2, 4096, 64]⟩
abbrev S2x4096x100 : Shape := ⟨3, ![2, 4096, 100]⟩
abbrev S4096x100 : Shape := ⟨2, ![4096, 100]⟩
abbrev S4096 : Shape := ⟨1, ![4096]⟩
abbrev S100x64 : Shape := ⟨2, ![100, 64]⟩
abbrev S100000x64 : Shape := ⟨2, ![100000, 64]⟩
abbrev S100000x100 : Shape := ⟨2, ![100000, 100]⟩
abbrev S_ : Shape := ⟨0, ![]⟩
abbrev S1x4096x100 : Shape := ⟨3, ![1, 4096, 100]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x64 : Shape := ⟨2, ![4096, 64]⟩
abbrev S1x4096x64 : Shape := ⟨3, ![1, 4096, 64]⟩
abbrev S4096x128 : Shape := ⟨2, ![4096, 128]⟩

abbrev nBuf : Space → Nat
  | .hbm => 187
  | .vmem => 0
  | .smem => 0
  | _ => 0

abbrev hbmTy0_0 (i : Nat) : BufTy := match i % 128 with
  | 0 => ⟨S2x4096x64, .f32⟩
  | 1 => ⟨S2x4096x100, .f32⟩
  | 2 => ⟨S4096x100, .f32⟩
  | 3 => ⟨S4096, .i32⟩
  | 4 => ⟨S100x64, .f32⟩
  | 5 => ⟨S100000x64, .f32⟩
  | 6 => ⟨S100000x100, .f32⟩
  | 7 => ⟨S4096x100, .i32⟩
  | 8 => ⟨S_, .f32⟩
  | 9 => ⟨S_, .i32⟩
  | 10 => ⟨S4096, .f32⟩
  | 11 => ⟨S4096, .i32⟩
  | 12 => ⟨S1x4096x100, .f32⟩
  | 13 => ⟨S4096x100, .f32⟩
  | 14 => ⟨S_, .f32⟩
  | 15 => ⟨S4096, .f32⟩
  | 16 => ⟨S_, .f32⟩
  | 17 => ⟨S4096, .f32⟩
  | 18 => ⟨S4096, .f32⟩
  | 19 => ⟨S4096x1, .f32⟩
  | 20 => ⟨S4096x100, .f32⟩
  | 21 => ⟨S4096x100, .f32⟩
  | 22 => ⟨S4096x100, .f32⟩
  | 23 => ⟨S_, .f32⟩
  | 24 => ⟨S4096, .f32⟩
  | 25 => ⟨S4096x1, .f32⟩
  | 26 => ⟨S4096x1, .f32⟩
  | 27 => ⟨S4096x100, .f32⟩
  | 28 => ⟨S4096x100, .f32⟩
  | 29 => ⟨S4096x1, .i32⟩
  | 30 => ⟨S_, .i32⟩
  | 31 => ⟨S4096x1, .i32⟩
  | 32 => ⟨S4096x1, .i1⟩
  | 33 => ⟨S_, .i32⟩
  | 34 => ⟨S4096x1, .i32⟩
  | 35 => ⟨S4096x1, .i32⟩
  | 36 => ⟨S4096x1, .i32⟩
  | 37 => ⟨S4096x1x1, .i32⟩
  | 38 => ⟨S1, .i32⟩
  | 39 => ⟨S_, .i32⟩
  | 40 => ⟨S4096x1x1, .i32⟩
  | 41 => ⟨S4096x1x1, .i1⟩
  | 42 => ⟨S1x1x1, .i32⟩
  | 43 => ⟨S4096x1x1, .i32⟩
  | 44 => ⟨S4096x1x1, .i1⟩
  | 45 => ⟨S4096x1x1, .i1⟩
  | 46 => ⟨S_, .i1⟩
  | 47 => ⟨S4096x1, .i1⟩
  | 48 => ⟨S4096x1, .f32⟩
  | 49 => ⟨S_, .f32⟩
  | 50 => ⟨S4096x1, .f32⟩
  | 51 => ⟨S4096x1, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S1x4096x100, .f32⟩
  | 60 => ⟨S4096x100, .f32⟩
  | 61 => ⟨S_, .f32⟩
  | 62 => ⟨S4096, .f32⟩
  | 63 => ⟨S_, .f32⟩
  | 64 => ⟨S4096, .f32⟩
  | 65 => ⟨S4096, .f32⟩
  | 66 => ⟨S4096x1, .f32⟩
  | 67 => ⟨S4096x100, .f32⟩
  | 68 => ⟨S4096x100, .f32⟩
  | 69 => ⟨S4096x100, .f32⟩
  | 70 => ⟨S_, .f32⟩
  | 71 => ⟨S4096, .f32⟩
  | 72 => ⟨S4096x1, .f32⟩
  | 73 => ⟨S4096x1, .f32⟩
  | 74 => ⟨S4096x100, .f32⟩
  | 75 => ⟨S4096x100, .f32⟩
  | 76 => ⟨S4096x1, .i32⟩
  | 77 => ⟨S_, .i32⟩
  | 78 => ⟨S4096x1, .i32⟩
  | 79 => ⟨S4096x1, .i1⟩
  | 80 => ⟨S_, .i32⟩
  | 81 => ⟨S4096x1, .i32⟩
  | 82 => ⟨S4096x1, .i32⟩
  | 83 => ⟨S4096x1, .i32⟩
  | 84 => ⟨S4096x1x1, .i32⟩
  | 85 => ⟨S1, .i32⟩
  | 86 => ⟨S_, .i32⟩
  | 87 => ⟨S4096x1x1, .i32⟩
  | 88 => ⟨S4096x1x1, .i1⟩
  | 89 => ⟨S1x1x1, .i32⟩
  | 90 => ⟨S4096x1x1, .i32⟩
  | 91 => ⟨S4096x1x1, .i1⟩
  | 92 => ⟨S4096x1x1, .i1⟩
  | 93 => ⟨S_, .i1⟩
  | 94 => ⟨S4096x1, .i1⟩
  | 95 => ⟨S4096x1, .f32⟩
  | 96 => ⟨S_, .f32⟩
  | 97 => ⟨S4096x1, .f32⟩
  | 98 => ⟨S4096x1, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S4096x64, .f32⟩
  | 116 => ⟨S1x4096x64, .f32⟩
  | 117 => ⟨S4096x64, .f32⟩
  | 118 => ⟨S4096x64, .f32⟩
  | 119 => ⟨S_, .f32⟩
  | 120 => ⟨S4096x64, .f32⟩
  | 121 => ⟨S4096x64, .f32⟩
  | 122 => ⟨S_, .f32⟩
  | 123 => ⟨S_, .f32⟩
  | 124 => ⟨S4096x64, .f32⟩
  | 125 => ⟨S4096x64, .f32⟩
  | 126 => ⟨S_, .f32⟩
  | 127 => ⟨S_, .f32⟩
  | _ => ⟨S2x4096x64, .f32⟩

abbrev hbmTy0_1 (i : Nat) : BufTy := match i % 128 with
  | 0 => ⟨S_, .f32⟩
  | 1 => ⟨S_, .f32⟩
  | 2 => ⟨S1x4096x64, .f32⟩
  | 3 => ⟨S4096x64, .f32⟩
  | 4 => ⟨S4096x64, .f32⟩
  | 5 => ⟨S_, .f32⟩
  | 6 => ⟨S4096x64, .f32⟩
  | 7 => ⟨S4096x64, .f32⟩
  | 8 => ⟨S_, .f32⟩
  | 9 => ⟨S_, .f32⟩
  | 10 => ⟨S4096x64, .f32⟩
  | 11 => ⟨S4096x64, .f32⟩
  | 12 => ⟨S_, .f32⟩
  | 13 => ⟨S_, .f32⟩
  | 14 => ⟨S_, .f32⟩
  | 15 => ⟨S_, .f32⟩
  | 16 => ⟨S1x4096x64, .f32⟩
  | 17 => ⟨S4096x64, .f32⟩
  | 18 => ⟨S1x4096x64, .f32⟩
  | 19 => ⟨S4096x64, .f32⟩
  | 20 => ⟨S4096x128, .f32⟩
  | 21 => ⟨S4096x128, .f32⟩
  | 22 => ⟨S_, .f32⟩
  | 23 => ⟨S4096x128, .f32⟩
  | 24 => ⟨S4096x128, .i1⟩
  | 25 => ⟨S4096x128, .f32⟩
  | 26 => ⟨S_, .f32⟩
  | 27 => ⟨S_, .f32⟩
  | 28 => ⟨S_, .f32⟩
  | 29 => ⟨S_, .f32⟩
  | 30 => ⟨S_, .f32⟩
  | 31 => ⟨S4096x128, .f32⟩
  | 32 => ⟨S4096x128, .i1⟩
  | 33 => ⟨S4096x128, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S1, .f32⟩
  | _ => ⟨S2x4096x64, .f32⟩

abbrev hbmTy (i : Nat) : BufTy := match i / 128 with
  | 0 => hbmTy0_0 i
  | 1 => hbmTy0_1 i
  | _ => ⟨S2x4096x64, .f32⟩

abbrev bufTy : (tb : Table) → Fin (tcTables nBuf tb) → BufTy
  | .hbm, ⟨i, _⟩ => hbmTy i
  | _, _ => ⟨S2x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v3 : Ref sig .tc := ⟨.hbm, 28, rfl⟩
abbrev main_v4 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v5 : Ref sig .tc := ⟨.hbm, 51, rfl⟩
abbrev main_cst : Ref sig .tc := ⟨.hbm, 52, rfl⟩
abbrev main_v6 : Ref sig .tc := ⟨.hbm, 53, rfl⟩
abbrev main_cst_0 : Ref sig .tc := ⟨.hbm, 54, rfl⟩
abbrev main_v7 : Ref sig .tc := ⟨.hbm, 55, rfl⟩
abbrev main_v8 : Ref sig .tc := ⟨.hbm, 56, rfl⟩
abbrev main_cst_1 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_call3_cst : Ref sig .tc := ⟨.hbm, 61, rfl⟩
abbrev main_call3_v0 : Ref sig .tc := ⟨.hbm, 62, rfl⟩
abbrev main_call3_cst_0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_v6 : Ref sig .tc := ⟨.hbm, 69, rfl⟩
abbrev main_call3_cst_1 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_v12 : Ref sig .tc := ⟨.hbm, 75, rfl⟩
abbrev main_v13 : Ref sig .tc := ⟨.hbm, 76, rfl⟩
abbrev main_call4_c : Ref sig .tc := ⟨.hbm, 77, rfl⟩
abbrev main_call4_v0 : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_c_1 : Ref sig .tc := ⟨.hbm, 85, rfl⟩
abbrev main_call4_c_2 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_3 : Ref sig .tc := ⟨.hbm, 93, rfl⟩
abbrev main_call4_v12 : Ref sig .tc := ⟨.hbm, 94, rfl⟩
abbrev main_call4_v13 : Ref sig .tc := ⟨.hbm, 95, rfl⟩
abbrev main_call4_cst : Ref sig .tc := ⟨.hbm, 96, rfl⟩
abbrev main_call4_v14 : Ref sig .tc := ⟨.hbm, 97, rfl⟩
abbrev main_v14 : Ref sig .tc := ⟨.hbm, 98, rfl⟩
abbrev main_cst_2 : Ref sig .tc := ⟨.hbm, 99, rfl⟩
abbrev main_v15 : Ref sig .tc := ⟨.hbm, 100, rfl⟩
abbrev main_cst_3 : Ref sig .tc := ⟨.hbm, 101, rfl⟩
abbrev main_v16 : Ref sig .tc := ⟨.hbm, 102, rfl⟩
abbrev main_v17 : Ref sig .tc := ⟨.hbm, 103, rfl⟩
abbrev main_cst_4 : Ref sig .tc := ⟨.hbm, 104, rfl⟩
abbrev main_v18 : Ref sig .tc := ⟨.hbm, 105, rfl⟩
abbrev main_v19 : Ref sig .tc := ⟨.hbm, 106, rfl⟩
abbrev main_c : Ref sig .tc := ⟨.hbm, 107, rfl⟩
abbrev main_v20 : Ref sig .tc := ⟨.hbm, 108, rfl⟩
abbrev main_v21 : Ref sig .tc := ⟨.hbm, 109, rfl⟩
abbrev main_c_5 : Ref sig .tc := ⟨.hbm, 110, rfl⟩
abbrev main_v22 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩
abbrev main_cst_6 : Ref sig .tc := ⟨.hbm, 119, rfl⟩
abbrev main_v30 : Ref sig .tc := ⟨.hbm, 120, rfl⟩
abbrev main_v31 : Ref sig .tc := ⟨.hbm, 121, rfl⟩
abbrev main_cst_7 : Ref sig .tc := ⟨.hbm, 122, rfl⟩
abbrev main_call5_v0 : Ref sig .tc := ⟨.hbm, 123, rfl⟩
abbrev main_call5_v1 : Ref sig .tc := ⟨.hbm, 124, rfl⟩
abbrev main_v32 : Ref sig .tc := ⟨.hbm, 125, rfl⟩
abbrev main_cst_8 : Ref sig .tc := ⟨.hbm, 126, rfl⟩
abbrev main_v33 : Ref sig .tc := ⟨.hbm, 127, rfl⟩
abbrev main_cst_9 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_cst_10 : Ref sig .tc := ⟨.hbm, 133, rfl⟩
abbrev main_v38 : Ref sig .tc := ⟨.hbm, 134, rfl⟩
abbrev main_v39 : Ref sig .tc := ⟨.hbm, 135, rfl⟩
abbrev main_cst_11 : Ref sig .tc := ⟨.hbm, 136, rfl⟩
abbrev main_call6_v0 : Ref sig .tc := ⟨.hbm, 137, rfl⟩
abbrev main_call6_v1 : Ref sig .tc := ⟨.hbm, 138, rfl⟩
abbrev main_v40 : Ref sig .tc := ⟨.hbm, 139, rfl⟩
abbrev main_cst_12 : Ref sig .tc := ⟨.hbm, 140, rfl⟩
abbrev main_v41 : Ref sig .tc := ⟨.hbm, 141, rfl⟩
abbrev main_cst_13 : Ref sig .tc := ⟨.hbm, 142, rfl⟩
abbrev main_v42 : Ref sig .tc := ⟨.hbm, 143, rfl⟩
abbrev main_v43 : Ref sig .tc := ⟨.hbm, 144, rfl⟩
abbrev main_v44 : Ref sig .tc := ⟨.hbm, 145, rfl⟩
abbrev main_v45 : Ref sig .tc := ⟨.hbm, 146, rfl⟩
abbrev main_v46 : Ref sig .tc := ⟨.hbm, 147, rfl⟩
abbrev main_v47 : Ref sig .tc := ⟨.hbm, 148, rfl⟩
abbrev main_v48 : Ref sig .tc := ⟨.hbm, 149, rfl⟩
abbrev main_cst_14 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_cst_15 : Ref sig .tc := ⟨.hbm, 154, rfl⟩
abbrev main_v52 : Ref sig .tc := ⟨.hbm, 155, rfl⟩
abbrev main_cst_16 : Ref sig .tc := ⟨.hbm, 156, rfl⟩
abbrev main_v53 : Ref sig .tc := ⟨.hbm, 157, rfl⟩
abbrev main_cst_17 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_cst_18 : Ref sig .tc := ⟨.hbm, 162, rfl⟩
abbrev main_v57 : Ref sig .tc := ⟨.hbm, 163, rfl⟩
abbrev main_cst_19 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_cst_20 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_cst_21 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_cst_22 : Ref sig .tc := ⟨.hbm, 180, rfl⟩
abbrev main_v71 : Ref sig .tc := ⟨.hbm, 181, rfl⟩
abbrev main_v72 : Ref sig .tc := ⟨.hbm, 182, rfl⟩
abbrev main_cst_23 : Ref sig .tc := ⟨.hbm, 183, rfl⟩
abbrev main_v73 : Ref sig .tc := ⟨.hbm, 184, rfl⟩
abbrev main_v74 : Ref sig .tc := ⟨.hbm, 185, rfl⟩
abbrev main_v75 : Ref sig .tc := ⟨.hbm, 186, rfl⟩

abbrev nD : Nat := 1
abbrev τ : Topo := Topo.v7x

variable {F : FTy → Type} [FloatOps F]
-- ==== Proof.KernelIdeal.Runs.lean ====
/- The kernel body run at one grid point, in each of its three cases: the first point (the six running sums are set to
   zero before they are added to), a middle point, and the last point (where the six sums are combined into the result). -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.CellWrites
public import Idealize.ShloMosaic.Lib.VecWindow
public import Idealize.ShloMosaic.Lib.Pipeline.FrameBody

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point adds to each running sum -/

/-- The condition of the body's first conditional: the point is the first. -/
abbrev isFirst (i : grid0.Coords) : Prop :=
  (Scalar.cmpi .ne (Scalar.extui (Scalar.cmpi .eq (BitVec.ofNat 32 (i 0).val) 0#32)) 0#32) = 1#1

/-- The condition of the body's second conditional: the point is the last. -/
abbrev isLast (i : grid0.Coords) : Prop := k0_cond2 i = 1#1

/-- Entry `k` of the scratch buffer. -/
abbrev cell (k : Fin 8) : S8.Idx := fun a => ⟨k.val, by rw [Fin.fin_one_eq_zero a]; exact k.isLt⟩

/-- The first head's half of the block of hashes. -/
def headA (x1 : Vec F S2x64x512 .f32) : Vec F S1x64x512 .f32 :=
  fun j => x1 ((Rect.unit (s := S2x64x512) ![0, 0, 0] S1x64x512.size inb_S2x64x512_S1x64x512_0_0_0).toLoadRect.idx j)

/-- The second head's half of the block of hashes. -/
def headB (x1 : Vec F S2x64x512 .f32) : Vec F S1x64x512 .f32 :=
  fun j => x1 ((Rect.unit (s := S2x64x512) ![1, 0, 0] S1x64x512.size inb_S2x64x512_S1x64x512_1_0_0).toLoadRect.idx j)

/-- The block's cross entropies, sample by sample, of both heads. -/
def entropies (x2 : Vec F S100x8x128 .f32) (x3 : Vec F S100x512 .f32) : FVec F S8x128 .f32 :=
  k0_pay11 (k0_pay7 x3) (iota .tc S8x4 32 [1] iota_S8x4_d1_w32) k0_pay8 k0_pay9 k0_pay10 x2

/-- What the point makes of the six running sums `a`; the two entries past them are left as they are. -/
def step (x1 : Vec F S2x64x512 .f32) (x2 : Vec F S100x8x128 .f32) (x3 : Vec F S100x512 .f32) (x4 : Vec F S64x100 .f32)
    (a : Vec F S8 .f32) : Vec F S8 .f32 := fun y =>
  if (y 0).val = 5 then k0_pay3 (k0_pay23 (k0_pay17 (headA x1)) (k0_pay18 (headB x1))) (a (cell 5))
  else if (y 0).val = 4 then k0_pay2 (k0_pay22 (k0_pay17 (headA x1)) (k0_pay18 (headB x1))) (a (cell 4))
  else if (y 0).val = 3 then k0_pay1 (k0_pay21 (k0_pay20 (k0_pay6 x3) x4 (headB x1))) (a (cell 3))
  else if (y 0).val = 2 then k0_pay26 (k0_pay19 (k0_pay6 x3) x4 (headA x1)) (a (cell 2))
  else if (y 0).val = 1 then k0_pay25 (k0_pay15 (entropies x2 x3) k0_pay12) (a (cell 1))
  else if (y 0).val = 0 then k0_pay24 (k0_pay14 (entropies x2 x3) k0_pay13) (a (cell 0))
  else a y

/-- The six running sums set to zero, the two entries past them left as they are. -/
def zeroed (a : Vec F S8 .f32) : Vec F S8 .f32 := fun y =>
  if (y 0).val < 6 then Scalar.ofBits .f32 0x00000000#32 else a y

/-- The result the last point stores, from the six running sums. -/
def total (a : Vec F S8 .f32) : Vec F S1 .f32 := fun _ =>
  k0_pay4 (a (cell 0)) (a (cell 1)) (a (cell 2)) (a (cell 3)) (a (cell 4)) (a (cell 5))

/-- A load of a whole buffer reads its contents. -/
theorem load_whole {sp : Space} {s : Shape} {e : EltTy} (arg : Memref sig .tc sp s e) (harg : arg.IsWhole) (x : Vec F s e)
    {off : Fin s.rank → ℕ} (inb : ∀ a, off a + s.size a ≤ s.size a) :
    View.readAt (Elt F) arg.view (Rect.unit off s.size inb).toLoadRect (harg.unread x) = x :=
  (View.readAt_full _ _ inb).trans (harg.read_unread _)

/-- A load of a part of a buffer reads that part of its contents. -/
theorem load_part {sp : Space} {s : Shape} {e : EltTy} (arg : Memref sig .tc sp s e) (harg : arg.IsWhole) (x : Vec F s e)
    (r : LoadRect s) : View.readAt (Elt F) arg.view r (harg.unread x) = fun j => x (r.idx j) := by
  funext j; rw [View.readAt_apply, harg.read_unread]

/-- A load of one entry of the scratch buffer reads that entry. -/
theorem load_cell (arg6 : Memref sig .tc .smem S8 .f32) (harg6 : arg6.IsWhole) (x6 : Vec F S8 .f32) (k : Fin 8)
    (inb : ∀ a, (![k.val] : Fin 1 → ℕ) a + S1.size a ≤ S8.size a) (j : S1.Idx) :
    View.readAt (Elt F) arg6.view (Rect.unit (s := S8) ![k.val] S1.size inb).toLoadRect (harg6.unread x6) j = x6 (cell k) := by
  rw [load_part]
  refine congrArg x6 (funext fun a => Fin.ext ?_)
  have ha : a = 0 := Fin.fin_one_eq_zero a
  subst ha
  have h1 : (j 0).val < 1 := (j 0).isLt
  show k.val + 1 * (j 0).val = k.val
  omega

/-- Six entries written, newest first, over contents `x`. -/
theorem read_six (v : View sig .tc .smem S8 .f32) (f : v.ty.Contents (Elt F)) (p0 p1 p2 p3 p4 p5 : Elt F .f32)
    (L : List (View.Piece (Elt F) S8 .f32)) (y : S8.Idx) :
    v.read (Elt F) (v.writes (Elt F) f
      (⟨Rect.unit ![5] ![1] inb_S8_S1_5, fun _ => p5⟩ :: ⟨Rect.unit ![4] ![1] inb_S8_S1_4, fun _ => p4⟩
        :: ⟨Rect.unit ![3] ![1] inb_S8_S1_3, fun _ => p3⟩ :: ⟨Rect.unit ![2] ![1] inb_S8_S1_2, fun _ => p2⟩
        :: ⟨Rect.unit ![1] ![1] inb_S8_S1_1, fun _ => p1⟩ :: ⟨Rect.unit ![0] ![1] inb_S8_S1_0, fun _ => p0⟩ :: L)) y
      = if (y 0).val = 5 then p5 else if (y 0).val = 4 then p4 else if (y 0).val = 3 then p3
        else if (y 0).val = 2 then p2 else if (y 0).val = 1 then p1 else if (y 0).val = 0 then p0
        else v.read (Elt F) (v.writes (Elt F) f L) y := by
  iterate 6 rw [View.read_writes_cons_cell]
  rfl

/-! ## The three runs -/

set_option maxHeartbeats 1000000 in
/-- A middle point: each running sum gets the point's addend, the result is not touched. -/
theorem run_mid (c : Dev nD) (i : grid0.Coords) (arg1 : Memref sig .tc .vmem S2x64x512 .f32) (harg1 : arg1.IsWhole)
    (arg2 : Memref sig .tc .vmem S100x8x128 .f32) (harg2 : arg2.IsWhole) (arg3 : Memref sig .tc .vmem S100x512 .f32) (harg3 : arg3.IsWhole)
    (arg4 : Memref sig .tc .vmem S64x100 .f32) (harg4 : arg4.IsWhole) (arg5 : Memref sig .tc .smem S1 .f32) (harg5 : arg5.IsWhole)
    (arg6 : Memref sig .tc .smem S8 .f32) (harg6 : arg6.IsWhole)
    (hc0 : ¬isFirst i) (hc1 : ¬isLast i)
    (x1 : Vec F S2x64x512 .f32) (x2 : Vec F S100x8x128 .f32) (x3 : Vec F S100x512 .f32) (x4 : Vec F S64x100 .f32)
    (x5 : Vec F S1 .f32) (x6 : Vec F S8 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (x5)
            ∗ owns (c : Thread nD τ) arg6 fullShare (step x1 x2 x3 x4 x6)) -∗ K ⟨⟩))
      ⊢ wp frame (wpE (defs₀ (F := F)) Variants.none c none) E
          (cc0__loss_kernel i arg1 harg1 arg2 harg2 arg3 harg3 arg4 harg4 arg5 harg5 arg6 harg6) K := by
  simp only [cc0__loss_kernel_eq_skeleton]; unfold cc0__loss_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  iexists _; isplitr
  swap; · iexact H6
  ipureintro
  funext y
  have r0 : run_mid.sl.r c arg6 harg6 x6 = x6 (cell 0) := load_cell arg6 harg6 x6 0 inb_S8_S1_0 _
  have r1 : run_mid.sl.r_1 c arg6 harg6 x6 = x6 (cell 1) := load_cell arg6 harg6 x6 1 inb_S8_S1_1 _
  have r2 : run_mid.sl.r_2 c arg6 harg6 x6 = x6 (cell 2) := load_cell arg6 harg6 x6 2 inb_S8_S1_2 _
  have r3 : run_mid.sl.r_3 c arg6 harg6 x6 = x6 (cell 3) := load_cell arg6 harg6 x6 3 inb_S8_S1_3 _
  have r4 : run_mid.sl.r_4 c arg6 harg6 x6 = x6 (cell 4) := load_cell arg6 harg6 x6 4 inb_S8_S1_4 _
  have r5 : run_mid.sl.r_5 c arg6 harg6 x6 = x6 (cell 5) := load_cell arg6 harg6 x6 5 inb_S8_S1_5 _
  rw [r0, r1, r2, r3, r4, r5, load_whole arg2 harg2 x2, load_whole arg3 harg3 x3, load_whole arg4 harg4 x4,
    load_part arg1 harg1 x1, load_part arg1 harg1 x1]
  refine (read_six arg6.view _ _ _ _ _ _ _ _ y).trans ?_
  rw [View.writes_nil, harg6.read_unread]
  rfl

set_option maxHeartbeats 1000000 in
/-- The first point: the running sums start from zero, the result is not touched. -/
theorem run_first (c : Dev nD) (i : grid0.Coords) (arg1 : Memref sig .tc .vmem S2x64x512 .f32) (harg1 : arg1.IsWhole)
    (arg2 : Memref sig .tc .vmem S100x8x128 .f32) (harg2 : arg2.IsWhole) (arg3 : Memref sig .tc .vmem S100x512 .f32) (harg3 : arg3.IsWhole)
    (arg4 : Memref sig .tc .vmem S64x100 .f32) (harg4 : arg4.IsWhole) (arg5 : Memref sig .tc .smem S1 .f32) (harg5 : arg5.IsWhole)
    (arg6 : Memref sig .tc .smem S8 .f32) (harg6 : arg6.IsWhole)
    (hc0 : isFirst i) (hc1 : ¬isLast i)
    (x1 : Vec F S2x64x512 .f32) (x2 : Vec F S100x8x128 .f32) (x3 : Vec F S100x512 .f32) (x4 : Vec F S64x100 .f32)
    (x5 : Vec F S1 .f32) (x6 : Vec F S8 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (x5)
            ∗ owns (c : Thread nD τ) arg6 fullShare (step x1 x2 x3 x4 (zeroed x6))) -∗ K ⟨⟩))
      ⊢ wp frame (wpE (defs₀ (F := F)) Variants.none c none) E
          (cc0__loss_kernel i arg1 harg1 arg2 harg2 arg3 harg3 arg4 harg4 arg5 harg5 arg6 harg6) K := by
  simp only [cc0__loss_kernel_eq_skeleton]; unfold cc0__loss_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    exact harg5.read_unread _
  iexists _; isplitr
  swap; · iexact H6
  ipureintro
  funext y
  rw [load_whole arg2 harg2 x2, load_whole arg3 harg3 x3, load_whole arg4 harg4 x4,
    load_part arg1 harg1 x1, load_part arg1 harg1 x1]
  refine (read_six arg6.view _ _ _ _ _ _ _ _ y).trans ?_
  refine Eq.trans (b := step (F := F) x1 x2 x3 x4 (zeroed (F := F) x6) y) ?_ rfl
  unfold step
  repeat' (split_ifs with h)
  all_goals first | rfl | skip
  refine (read_six arg6.view _ _ _ _ _ _ _ _ y).trans ?_
  rw [View.writes_nil, harg6.read_unread]
  have hy : ¬ (y 0).val < 6 := by omega
  unfold zeroed
  rw [if_neg hy]
  split_ifs; rfl

set_option maxHeartbeats 1000000 in
/-- The last point: each running sum gets the point's addend, and the result is stored from them. -/
theorem run_last (c : Dev nD) (i : grid0.Coords) (arg1 : Memref sig .tc .vmem S2x64x512 .f32) (harg1 : arg1.IsWhole)
    (arg2 : Memref sig .tc .vmem S100x8x128 .f32) (harg2 : arg2.IsWhole) (arg3 : Memref sig .tc .vmem S100x512 .f32) (harg3 : arg3.IsWhole)
    (arg4 : Memref sig .tc .vmem S64x100 .f32) (harg4 : arg4.IsWhole) (arg5 : Memref sig .tc .smem S1 .f32) (harg5 : arg5.IsWhole)
    (arg6 : Memref sig .tc .smem S8 .f32) (harg6 : arg6.IsWhole)
    (hc0 : ¬isFirst i) (hc1 : isLast i)
    (x1 : Vec F S2x64x512 .f32) (x2 : Vec F S100x8x128 .f32) (x3 : Vec F S100x512 .f32) (x4 : Vec F S64x100 .f32)
    (x5 : Vec F S1 .f32) (x6 : Vec F S8 .f32) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (total (step x1 x2 x3 x4 x6))
            ∗ owns (c : Thread nD τ) arg6 fullShare (step x1 x2 x3 x4 x6)) -∗ K ⟨⟩))
      ⊢ wp frame (wpE (defs₀ (F := F)) Variants.none c none) E
          (cc0__loss_kernel i arg1 harg1 arg2 harg2 arg3 harg3 arg4 harg4 arg5 harg5 arg6 harg6) K := by
  simp only [cc0__loss_kernel_eq_skeleton]; unfold cc0__loss_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    funext y
    have r0 : run_last.sl.r c arg6 harg6 x6 = x6 (cell 0) := load_cell arg6 harg6 x6 0 inb_S8_S1_0 _
    have r1 : run_last.sl.r_1 c arg6 harg6 x6 = x6 (cell 1) := load_cell arg6 harg6 x6 1 inb_S8_S1_1 _
    have r2 : run_last.sl.r_2 c arg6 harg6 x6 = x6 (cell 2) := load_cell arg6 harg6 x6 2 inb_S8_S1_2 _
    have r3 : run_last.sl.r_3 c arg6 harg6 x6 = x6 (cell 3) := load_cell arg6 harg6 x6 3 inb_S8_S1_3 _
    have r4 : run_last.sl.r_4 c arg6 harg6 x6 = x6 (cell 4) := load_cell arg6 harg6 x6 4 inb_S8_S1_4 _
    have r5 : run_last.sl.r_5 c arg6 harg6 x6 = x6 (cell 5) := load_cell arg6 harg6 x6 5 inb_S8_S1_5 _
    have q0 : run_last.sl.r_6 c arg2 harg2 arg3 harg3 arg6 harg6 x2 x3 x6 = step (F := F) x1 x2 x3 x4 x6 (cell 0) := by
      unfold run_last.sl.r_6
      rw [r0, load_whole arg2 harg2 x2, load_whole arg3 harg3 x3]
      rfl
    have q1 : run_last.sl.r_7 c arg2 harg2 arg3 harg3 arg6 harg6 x2 x3 x6 = step (F := F) x1 x2 x3 x4 x6 (cell 1) := by
      unfold run_last.sl.r_7
      rw [r1, load_whole arg2 harg2 x2, load_whole arg3 harg3 x3]
      rfl
    have q2 : run_last.sl.r_8 c arg1 harg1 arg3 harg3 arg4 harg4 arg6 harg6 x1 x3 x4 x6 = step (F := F) x1 x2 x3 x4 x6 (cell 2) := by
      unfold run_last.sl.r_8
      rw [r2, load_whole arg3 harg3 x3, load_whole arg4 harg4 x4, load_part arg1 harg1 x1, load_part arg1 harg1 x1]
      rfl
    have q3 : run_last.sl.r_9 c arg1 harg1 arg3 harg3 arg4 harg4 arg6 harg6 x1 x3 x4 x6 = step (F := F) x1 x2 x3 x4 x6 (cell 3) := by
      unfold run_last.sl.r_9
      rw [r3, load_whole arg3 harg3 x3, load_whole arg4 harg4 x4, load_part arg1 harg1 x1]
      rfl
    have q4 : run_last.sl.r_10 c arg1 harg1 arg6 harg6 x1 x6 = step (F := F) x1 x2 x3 x4 x6 (cell 4) := by
      unfold run_last.sl.r_10
      rw [r4, load_part arg1 harg1 x1, load_part arg1 harg1 x1]
      rfl
    have q5 : run_last.sl.r_11 c arg1 harg1 arg6 harg6 x1 x6 = step (F := F) x1 x2 x3 x4 x6 (cell 5) := by
      unfold run_last.sl.r_11
      rw [r5, load_part arg1 harg1 x1, load_part arg1 harg1 x1]
      rfl
    rw [q0, q1, q2, q3, q4, q5]
    refine (View.read_writes_cons_cell (d := ![1]) arg5.view _ _ _ _ y).trans (if_pos ?_)
    have := (y 0).isLt
    exact Nat.lt_one_iff.mp this
  iexists _; isplitr
  swap; · iexact H6
  ipureintro
  funext y
  have r0 : run_last.sl.r c arg6 harg6 x6 = x6 (cell 0) := load_cell arg6 harg6 x6 0 inb_S8_S1_0 _
  have r1 : run_last.sl.r_1 c arg6 harg6 x6 = x6 (cell 1) := load_cell arg6 harg6 x6 1 inb_S8_S1_1 _
  have r2 : run_last.sl.r_2 c arg6 harg6 x6 = x6 (cell 2) := load_cell arg6 harg6 x6 2 inb_S8_S1_2 _
  have r3 : run_last.sl.r_3 c arg6 harg6 x6 = x6 (cell 3) := load_cell arg6 harg6 x6 3 inb_S8_S1_3 _
  have r4 : run_last.sl.r_4 c arg6 harg6 x6 = x6 (cell 4) := load_cell arg6 harg6 x6 4 inb_S8_S1_4 _
  have r5 : run_last.sl.r_5 c arg6 harg6 x6 = x6 (cell 5) := load_cell arg6 harg6 x6 5 inb_S8_S1_5 _
  rw [r0, r1, r2, r3, r4, r5, load_whole arg2 harg2 x2, load_whole arg3 harg3 x3, load_whole arg4 harg4 x4,
    load_part arg1 harg1 x1, load_part arg1 harg1 x1]
  refine (read_six arg6.view _ _ _ _ _ _ _ _ y).trans ?_
  rw [View.writes_nil, harg6.read_unread]
  rfl

end Cert.KernelIdeal.Loss

end
-- ==== Proof.Spec.lean ====
module

public import Idealize.ShloMosaic.Lib.Pointwise

@[expose] public section

/-!
# The loss over the extended reals

What one sample contributes, and the facts about extended reals that make the two ways of writing the loss one number.
-/

noncomputable section

namespace Cert.Loss

open Idealize.ShloMosaic

/-! ### The largest entry of a row and where it stands -/

/-- The largest of a hundred numbers. -/
def top (f : Fin 100 → EReal) : EReal := Finset.univ.fold max (Ideal.ofBits .f32 0xFF800000#32) f

/-- The bits of minus infinity name the bottom of the extended reals. -/
theorem ofBits_bot : Ideal.ofBits .f32 0xFF800000#32 = ⊥ := by
  simp [Ideal.ofBits, Ideal.ieee]

/-- The largest number of a row is its supremum. -/
theorem top_eq_sup (f : Fin 100 → EReal) : top f = Finset.univ.sup f := by
  unfold top
  rw [ofBits_bot]
  rfl

/-- Every number of a row is at most the largest. -/
theorem le_top (f : Fin 100 → EReal) (j : Fin 100) : f j ≤ top f := by
  rw [top_eq_sup]
  exact Finset.le_sup (Finset.mem_univ j)

/-- The largest number of a row stands somewhere in it. -/
theorem exists_top (f : Fin 100 → EReal) : ∃ j, f j = top f := by
  rw [top_eq_sup]
  obtain ⟨j, _, h⟩ := Finset.exists_mem_eq_sup Finset.univ ⟨0, Finset.mem_univ 0⟩ f
  exact ⟨j, h.symm⟩

/-- The place `l` is the first at which the largest number of the row stands. -/
def IsFirst (f : Fin 100 → EReal) (l : Fin 100) : Prop := f l = top f ∧ ∀ j, f j = top f → l ≤ j

/-- There is a first place of the largest number. -/
theorem exists_isFirst (f : Fin 100 → EReal) : ∃ l, IsFirst f l := by
  classical
  obtain ⟨j, hj⟩ := exists_top f
  have hne : (Finset.univ.filter fun j => f j = top f).Nonempty := ⟨j, by simp [hj]⟩
  refine ⟨_, (Finset.mem_filter.1 (Finset.min'_mem _ hne)).2, fun i hi => Finset.min'_le _ _ (by simp [hi])⟩

/-- The first place of the largest number of a row. -/
def first (f : Fin 100 → EReal) : Fin 100 := Classical.choose (exists_isFirst f)

/-- The largest number stands at `first` and nowhere before. -/
theorem first_spec (f : Fin 100 → EReal) : IsFirst f (first f) := Classical.choose_spec (exists_isFirst f)

/-! ### Folds of the signed minimum over words -/

/-- A word that is the initial one or one of the folded ones, and at most all of them, is the folded minimum. -/
theorem fold_minsi_eq (n : ℕ) (b r : BitVec 32) (g : Fin n → BitVec 32) (hb : r.toInt ≤ b.toInt)
    (hg : ∀ j, r.toInt ≤ (g j).toInt) (hr : ∃ j, g j = r) : Finset.univ.fold IntOp.minsi b g = r := by
  classical
  have key : ∀ s : Finset (Fin n), ((s.fold IntOp.minsi b g = b) ∨ ∃ j ∈ s, s.fold IntOp.minsi b g = g j) ∧
      ∀ j ∈ s, (s.fold IntOp.minsi b g).toInt ≤ (g j).toInt := by
    intro s
    induction s using Finset.induction_on with
    | empty => simp
    | insert a s ha ih =>
      rw [Finset.fold_insert ha]
      obtain ⟨h1, h2⟩ := ih
      have hm : ∀ u v : BitVec 32, (IntOp.minsi u v = u ∧ u.toInt ≤ v.toInt) ∨ (IntOp.minsi u v = v ∧ v.toInt ≤ u.toInt) := by
        intro u v
        unfold IntOp.minsi
        by_cases h : u.slt v
        · left
          rw [BitVec.slt_eq_decide] at h
          simp only [decide_eq_true_eq] at h
          simp [BitVec.slt_eq_decide, h]
          try omega
        · right
          rw [BitVec.slt_eq_decide] at h
          simp only [decide_eq_true_eq] at h
          simp [BitVec.slt_eq_decide, h]
          try omega
      rcases hm (g a) (s.fold IntOp.minsi b g) with ⟨e, hle⟩ | ⟨e, hle⟩
      · rw [e]
        refine ⟨Or.inr ⟨a, by simp, rfl⟩, fun j hj => ?_⟩
        rcases Finset.mem_insert.1 hj with rfl | hj
        · exact le_refl _
        · exact hle.trans (h2 j hj)
      · rw [e]
        refine ⟨?_, fun j hj => ?_⟩
        · rcases h1 with h1 | ⟨j, hj, h1⟩
          · exact Or.inl h1
          · exact Or.inr ⟨j, Finset.mem_insert_of_mem hj, h1⟩
        · rcases Finset.mem_insert.1 hj with rfl | hj
          · exact hle
          · exact h2 j hj
  obtain ⟨h1, h2⟩ := key Finset.univ
  obtain ⟨j, hj⟩ := hr
  refine BitVec.eq_of_toInt_eq (le_antisymm (hj ▸ h2 j (Finset.mem_univ j)) ?_)
  rcases h1 with h1 | ⟨i, _, h1⟩
  · rw [h1]; exact hb
  · rw [h1]; exact hg i

/-- A number below `2 ^ 31` as a word reads signed as itself. -/
theorem toInt_ofNat {n : ℕ} (h : n < 2 ^ 31) : (BitVec.ofNat 32 n).toInt = n := by
  rw [BitVec.toInt_eq_toNat_cond, BitVec.toNat_ofNat]
  omega

/-- The least of the places at which the largest number stands, as a word: the first place. -/
theorem fold_first (f : Fin 100 → EReal) :
    Finset.univ.fold IntOp.minsi (2147483647#32) (fun j : Fin 100 => if f j = top f then BitVec.ofNat 32 j.val else 100#32)
      = BitVec.ofNat 32 (first f).val := by
  obtain ⟨h1, h2⟩ := first_spec f
  have e : (BitVec.ofNat 32 (first f).val).toInt = (first f).val := toInt_ofNat (by omega)
  refine fold_minsi_eq 100 _ _ _ ?_ (fun j => ?_) ⟨first f, by rw [if_pos h1]⟩
  · rw [e]
    have : (2147483647#32 : BitVec 32).toInt = 2147483647 := by decide
    rw [this]; omega
  · rw [e]
    split
    · next h =>
      rw [toInt_ofNat (by omega)]
      exact_mod_cast h2 j h
    · have : (100#32 : BitVec 32).toInt = 100 := by decide
      rw [this]; omega

/-! ### The cross entropy of one sample -/

/-- The cross entropy of a row of logits `f` against the place `l`. -/
def entropy (f : Fin 100 → EReal) (l : Fin 100) : EReal :=
  top f + Ideal.log (∑ j, Ideal.exp (f j - top f)) - f l

/-- A row has a finite largest number. -/
def Bounded (f : Fin 100 → EReal) : Prop := ⊥ < top f ∧ ∀ j, f j < ⊤

/-- The largest number of a bounded row is a real number. -/
theorem Bounded.top_real {f : Fin 100 → EReal} (h : Bounded f) : ∃ M : ℝ, top f = M := by
  obtain ⟨j, hj⟩ := exists_top f
  have h1 : top f ≠ ⊤ := hj ▸ (h.2 j).ne
  exact ⟨(top f).toReal, (EReal.coe_toReal h1 h.1.ne').symm⟩

/-- An exponential is never negative. -/
theorem exp_nonneg (x : EReal) : 0 ≤ Ideal.exp x := by
  induction x using EReal.rec with
  | bot => exact le_refl _
  | top => exact le_top' _
  | coe r => exact EReal.coe_nonneg.2 (Real.exp_nonneg r)
where le_top' (x : EReal) : x ≤ (⊤ : EReal) := _root_.le_top

/-- The exponential of a number that is at most a real number less that number is at most one. -/
theorem exp_sub_le_one {x : EReal} {M : ℝ} (h : x ≤ M) : Ideal.exp (x - M) ≤ 1 := by
  induction x using EReal.rec with
  | bot => exact zero_le_one
  | top => exact absurd (top_le_iff.1 h) (EReal.coe_ne_top M)
  | coe r =>
    rw [← EReal.coe_sub]
    show ((Real.exp (r - M) : ℝ) : EReal) ≤ 1
    have : r ≤ M := EReal.coe_le_coe_iff.1 h
    exact_mod_cast Real.exp_le_one_iff.2 (by linarith)

/-- The logarithm of the sum of the exponentials of a bounded row is a real number. -/
theorem Bounded.log_real {f : Fin 100 → EReal} (h : Bounded f) :
    ∃ L : ℝ, Ideal.log (∑ j, Ideal.exp (f j - top f)) = L := by
  obtain ⟨M, hM⟩ := h.top_real
  obtain ⟨i, hi⟩ := exists_top f
  have h1 : (1 : EReal) ≤ ∑ j, Ideal.exp (f j - top f) := by
    have e : Ideal.exp (f i - top f) = 1 := by
      rw [hi, hM, ← EReal.coe_sub, sub_self]
      show ((Real.exp 0 : ℝ) : EReal) = 1
      rw [Real.exp_zero]; rfl
    rw [← e]
    exact Finset.single_le_sum (f := fun j => Ideal.exp (f j - top f)) (fun j _ => exp_nonneg _) (Finset.mem_univ i)
  have h2 : ∑ j, Ideal.exp (f j - top f) ≤ ∑ _j : Fin 100, (1 : EReal) :=
    Finset.sum_le_sum fun j _ => by rw [hM]; exact exp_sub_le_one (hM ▸ le_top f j)
  have h3 : ∑ _j : Fin 100, (1 : EReal) < ⊤ := by
    rw [Finset.sum_const, Finset.card_univ, Fintype.card_fin, nsmul_one]
    exact EReal.coe_lt_top (100 : ℝ)
  generalize hS : ∑ j, Ideal.exp (f j - top f) = S at h1 h2 ⊢
  induction S using EReal.rec with
  | bot => exact absurd (zero_lt_one.trans_le h1) not_lt_bot
  | top => exact absurd (h2.trans_lt h3) (lt_irrefl _)
  | coe r =>
    have hr : 1 ≤ r := by exact_mod_cast h1
    refine ⟨Real.log r, ?_⟩
    show (if r ≤ 0 then (⊥ : EReal) else (Real.log r : EReal)) = _
    rw [if_neg (by linarith)]

/-- A bounded row's logarithm of the softmax is the negated cross entropy. -/
theorem Bounded.neg_entropy {f : Fin 100 → EReal} (h : Bounded f) (l : Fin 100) :
    f l - top f - Ideal.log (∑ j, Ideal.exp (f j - top f)) = -entropy f l := by
  obtain ⟨M, hM⟩ := h.top_real
  obtain ⟨L, hL⟩ := h.log_real
  unfold entropy
  rw [hL, hM]
  have hl := h.2 l
  generalize f l = x at hl
  induction x using EReal.rec with
  | bot => rfl
  | top => exact absurd hl (lt_irrefl _)
  | coe r =>
    norm_cast
    ring

/-- The cross entropy of a bounded row is not minus infinity. -/
theorem Bounded.entropy_ne_bot {f : Fin 100 → EReal} (h : Bounded f) (l : Fin 100) : entropy f l ≠ ⊥ := by
  obtain ⟨M, hM⟩ := h.top_real
  obtain ⟨L, hL⟩ := h.log_real
  unfold entropy
  rw [hL, hM]
  have hl := h.2 l
  generalize f l = x at hl
  induction x using EReal.rec with
  | bot => exact top_ne_bot
  | top => exact absurd hl (lt_irrefl _)
  | coe r =>
    norm_cast
    exact EReal.coe_ne_bot _

/-! ### Sums -/

/-- A sum none of whose terms is minus infinity is not minus infinity. -/
theorem sum_ne_bot {ι : Type} (s : Finset ι) (e : ι → EReal) (h : ∀ i, e i ≠ ⊥) : ∑ i ∈ s, e i ≠ ⊥ := by
  classical
  induction s using Finset.induction_on with
  | empty => simp
  | insert a s ha ih =>
    rw [Finset.sum_insert ha]
    exact EReal.add_ne_bot_iff.2 ⟨h a, ih⟩

/-- The negative of a sum none of whose terms is minus infinity is the sum of the negatives. -/
theorem sum_neg {ι : Type} (s : Finset ι) (e : ι → EReal) (h : ∀ i, e i ≠ ⊥) : ∑ i ∈ s, -e i = -∑ i ∈ s, e i := by
  classical
  induction s using Finset.induction_on with
  | empty => simp
  | insert a s ha ih =>
    rw [Finset.sum_insert ha, Finset.sum_insert ha, ih, EReal.neg_add (Or.inl (h a)) (Or.inr (sum_ne_bot s e h)),
      sub_eq_add_neg]

/-- A sum of numbers of which all but one are zero. -/
theorem sum_pick (l : Fin 100) (f : Fin 100 → EReal) : (∑ j, if j = l then f j else 0) = f l := by
  simp

/-- A sum against the indicator of one place is the number there, an infinite one times zero being zero. -/
theorem sum_mul_pick (l : Fin 100) (f : Fin 100 → EReal) : (∑ j, f j * (if j = l then 1 else 0)) = f l := by
  simp

/-! ### The literals -/

/-- The bits of minus one. -/
theorem ofBits_neg_one : Ideal.ofBits .f32 0xBF800000#32 = -1 := by
  simp [Ideal.ofBits, Ideal.ieee]
  rw [← EReal.coe_mul, ← EReal.coe_one]
  norm_num

/-- The number of samples is not zero. -/
theorem count_ne_zero : Ideal.ofBits .f32 0x45800000#32 ≠ 0 := by
  simp [Ideal.ofBits, Ideal.ieee]

/-- The number of hash values of a head is not zero. -/
theorem size_ne_zero : Ideal.ofBits .f32 0x48800000#32 ≠ 0 := by
  simp [Ideal.ofBits, Ideal.ieee]

/-- Off zero a quotient is the product with the inverse. -/
theorem div_eq {c : EReal} (h : c ≠ 0) (a : EReal) : Ideal.div a c = a * c⁻¹ := if_neg h

/-- The negative of a quotient is the quotient of the negative. -/
theorem neg_div_neg {c : EReal} (h : c ≠ 0) (a : EReal) : -Ideal.div (-a) c = Ideal.div a c := by
  rw [div_eq h, div_eq h, EReal.neg_mul, neg_neg]

/-- A sum of two numbers that are not negative is divided term by term. -/
theorem add_div {c : EReal} (h : c ≠ 0) {a b : EReal} (ha : 0 ≤ a) (hb : 0 ≤ b) :
    Ideal.div (a + b) c = Ideal.div a c + Ideal.div b c := by
  rw [div_eq h, div_eq h, div_eq h, EReal.right_distrib_of_nonneg ha hb]

/-- Minus one is negative. -/
theorem neg_one_lt_zero : (-1 : EReal) < 0 := EReal.neg_lt_zero.2 zero_lt_one

/-- The sign of a number is minus one exactly when it is negative. -/
theorem sign_eq_neg_one (a : EReal) : Ideal.sign a = Ideal.ofBits .f32 0xBF800000#32 ↔ a < 0 := by
  rw [ofBits_neg_one]
  rcases lt_trichotomy a 0 with h | rfl | h
  · simp [Ideal.sign_of_neg h, h]
  · simp only [Ideal.sign_zero, lt_irrefl, iff_false]
    exact neg_one_lt_zero.ne'
  · rw [Ideal.sign_of_pos h]
    simp only [h.not_gt, iff_false]
    exact (neg_one_lt_zero.trans zero_lt_one).ne'

/-- The sign of a number is one exactly when it is positive. -/
theorem sign_eq_one (a : EReal) : Ideal.sign a = 1 ↔ 0 < a := by
  rcases lt_trichotomy a 0 with h | rfl | h
  · rw [Ideal.sign_of_neg h]
    simp only [h.not_gt, iff_false]
    exact (neg_one_lt_zero.trans zero_lt_one).ne
  · simp [Ideal.sign_zero]
  · simp [Ideal.sign_of_pos h, h]

/-! ### The loss -/

/-- The loss from its six sums: the cross entropies of the two heads, their polarization losses, and the counts of the
negative and of the positive hash values. -/
def combine (a b c d e f : EReal) : EReal :=
  Ideal.ofBits .f32 0x3F000000#32 * Ideal.div a (Ideal.ofBits .f32 0x45800000#32) +
          Ideal.ofBits .f32 0x3F000000#32 * Ideal.div b (Ideal.ofBits .f32 0x45800000#32) +
        Ideal.ofBits .f32 0x3DCCCCCD#32 * Ideal.div (c + d) (Ideal.ofBits .f32 0x48800000#32) +
      Ideal.ofBits .f32 0x3DCCCCCD#32 *
        FloatOps.absf (F := Ideal) (φ := .f32)
          ((0 - Ideal.div e (Ideal.ofBits .f32 0x49800000#32)) *
                Ideal.log (Ideal.div e (Ideal.ofBits .f32 0x49800000#32)) *
              Ideal.ofBits .f32 0x3FB8AA3B#32 +
            Ideal.div f (Ideal.ofBits .f32 0x49800000#32) *
                Ideal.log (Ideal.div f (Ideal.ofBits .f32 0x49800000#32)) *
              Ideal.ofBits .f32 0x3FB8AA3B#32)

/-- What a pair of a hash value and a target value adds to the polarization loss. -/
def gap (h v : EReal) : EReal := max (Ideal.ofBits .f32 0x41800000#32 - h * v) 0

/-- One for a negative number, else zero. -/
def negative (h : EReal) : EReal := if h < 0 then 1 else 0

/-- One for a positive number, else zero. -/
def positive (h : EReal) : EReal := if 0 < h then 1 else 0

/-! ### The loss of all samples

`H h r k` are the hash values of head `h`, `X h r j` its logits, `T r j` the targets of sample `r`, and `W j k` the target
vectors. -/

/-- The sum of the cross entropies of one head's logits `X`. -/
def crossSum (X : Fin 4096 → Fin 100 → EReal) (T : Fin 4096 → Fin 100 → EReal) : EReal :=
  ∑ r, entropy (X r) (first (T r))

/-- The sum of the polarization losses of one head's hash values `H`. -/
def polarSum (H : Fin 4096 → Fin 64 → EReal) (T : Fin 4096 → Fin 100 → EReal) (W : Fin 100 → Fin 64 → EReal) : EReal :=
  ∑ r, ∑ k, gap (H r k) (W (first (T r)) k)

/-- The sum of `w` over all hash values of both heads. -/
def overBoth (w : EReal → EReal) (H : Fin 2 → Fin 4096 → Fin 64 → EReal) : EReal :=
  ∑ r, (∑ k, w (H 0 r k) + ∑ k, w (H 1 r k))

/-- The loss of all samples. -/
def value (H : Fin 2 → Fin 4096 → Fin 64 → EReal) (X : Fin 2 → Fin 4096 → Fin 100 → EReal) (T : Fin 4096 → Fin 100 → EReal)
    (W : Fin 100 → Fin 64 → EReal) : EReal :=
  combine (crossSum (X 0) T) (crossSum (X 1) T) (polarSum (H 0) T W) (polarSum (H 1) T W) (overBoth negative H)
    (overBoth positive H)

/-! ### Sums over blocks -/

/-- A sum over `a * b` places is the sum over `a` blocks of `b` places. -/
theorem sum_blocks (a b n : ℕ) (hn : n = a * b) (g : Fin n → EReal) (hb : ∀ (i : Fin a) (j : Fin b), b * i.val + j.val < n) :
    ∑ i : Fin a, ∑ j : Fin b, g ⟨b * i.val + j.val, hb i j⟩ = ∑ r, g r := by
  subst hn
  rw [← Fintype.sum_prod_type', ← Equiv.sum_comp finProdFinEquiv g]
  refine Finset.sum_congr rfl fun p _ => congrArg g (Fin.ext ?_)
  show b * p.1.val + p.2.val = p.2.val + b * p.1.val
  omega

/-- The sum of `g` over the samples of block `t`. -/
def blockSum (g : Fin 4096 → EReal) (t : Fin 8) : EReal := ∑ s : Fin 512, g ⟨512 * t.val + s.val, by omega⟩

/-- The sums over the eight blocks add up to the sum over all samples. -/
theorem sum_blockSum (g : Fin 4096 → EReal) : ∑ t, blockSum g t = ∑ r, g r :=
  sum_blocks 8 512 4096 rfl g fun i j => by omega

/-- The sum over a block's samples, by quarters. -/
theorem blockSum_quarters (g : Fin 4096 → EReal) (t : Fin 8) :
    ∑ q : Fin 4, ∑ l : Fin 128, g ⟨512 * t.val + (128 * q.val + l.val), by omega⟩ = blockSum g t :=
  sum_blocks 4 128 512 rfl (fun s : Fin 512 => g ⟨512 * t.val + s.val, by omega⟩) fun i j => by omega

/-- A polarization loss is not negative. -/
theorem gap_nonneg (h v : EReal) : 0 ≤ gap h v := le_max_right _ _

/-- A sum of polarization losses is not negative. -/
theorem polarSum_nonneg (H : Fin 4096 → Fin 64 → EReal) (T : Fin 4096 → Fin 100 → EReal) (W : Fin 100 → Fin 64 → EReal) :
    0 ≤ polarSum H T W :=
  Finset.sum_nonneg fun r _ => Finset.sum_nonneg fun k _ => gap_nonneg _ _

end Cert.Loss

end
-- ==== Proof.KernelIdeal.Block.lean ====
module

public import proofs.«01_k».proof.Proof.KernelIdeal.Runs
public import proofs.«01_k».proof.Proof.Spec
public import Idealize.ShloMosaic.Lib.Pointwise
public import Idealize.ShloMosaic.Lib.Pipeline.ValueKit

@[expose] public section

set_option maxRecDepth 16384

/-!
# What one block of samples adds to the six running sums
-/

noncomputable section

namespace Cert.KernelIdeal.Loss

open Cert.KernelIdeal Cert.KernelIdeal.Gen Cert.Loss Idealize.ShloMosaic

/-! ### Words and numbers -/

/-- The value of a test, as a number. -/
theorem sitofp_bit (φ : FTy) (b : Bool) :
    FloatOps.sitofp (F := Ideal) φ (BitVec.setWidth 32 (BitVec.ofBool b)) = if b then (1 : EReal) else 0 := by
  cases b
  · show (((BitVec.setWidth 32 (BitVec.ofBool false)).toInt : ℝ) : EReal) = 0
    norm_num
  · show (((BitVec.setWidth 32 (BitVec.ofBool true)).toInt : ℝ) : EReal) = 1
    rw [show (BitVec.setWidth 32 (BitVec.ofBool true)).toInt = 1 by decide]
    norm_num

/-- Two small numbers are equal as words exactly when they are equal. -/
theorem ofNat_eq_iff {a b : ℕ} (ha : a < 2 ^ 32) (hb : b < 2 ^ 32) : BitVec.ofNat 32 a = BitVec.ofNat 32 b ↔ a = b := by
  refine ⟨fun h => ?_, fun h => h ▸ rfl⟩
  have := congrArg BitVec.toNat h
  rwa [BitVec.toNat_ofNat, BitVec.toNat_ofNat, Nat.mod_eq_of_lt ha, Nat.mod_eq_of_lt hb] at this

/-- The test whether two small numbers are equal. -/
theorem cmpi_eq_ofNat {a b : ℕ} (ha : a < 2 ^ 32) (hb : b < 2 ^ 32) :
    IntOp.cmpi .eq (BitVec.ofNat 32 a) (BitVec.ofNat 32 b) = BitVec.ofBool (decide (a = b)) := by
  show BitVec.ofBool (decide (BitVec.ofNat 32 a = BitVec.ofNat 32 b)) = _
  simp only [ofNat_eq_iff ha hb]

/-- A choice by a test. -/
theorem select_bit {α : Type} (b : Bool) (x y : α) : Scalar.select (BitVec.ofBool b) x y = if b then x else y := by
  cases b <;> rfl

/-- A small number as a float, and back to a word. -/
theorem fptosi_natCast {n : ℕ} (h : n < 2 ^ 31) :
    FloatOps.fptosi (F := Ideal) (φ := .f32) 32 ((n : ℝ) : EReal) = BitVec.ofNat 32 n := by
  show BitVec.ofInt 32 (max _ (min _ (if (0 : ℝ) ≤ n then ⌊(n : ℝ)⌋ else ⌈(n : ℝ)⌉))) = _
  rw [if_pos (Nat.cast_nonneg n), Int.floor_natCast]
  have : max (-((2 ^ (32 - 1) : ℕ) : ℤ)) (min (((2 ^ (32 - 1) : ℕ) : ℤ) - 1) (n : ℤ)) = n := by
    norm_num at h ⊢
    omega
  rw [this, BitVec.ofInt_natCast]

/-- A word of a small number as a float. -/
theorem sitofp_ofNat (φ : FTy) {n : ℕ} (h : n < 2 ^ 31) :
    FloatOps.sitofp (F := Ideal) φ (BitVec.ofNat 32 n) = ((n : ℝ) : EReal) := by
  show (((BitVec.ofNat 32 n).toInt : ℝ) : EReal) = _
  rw [toInt_ofNat h]
  norm_cast

/-! ### The labels -/

/-- The label of sample `s` of the block: the first place of the largest of its targets. -/
def lab (x : Vec Ideal S100x512 .f32) (s : Fin 512) : Fin 100 := first fun j => x (ix2 j s)

/-- The kernel's row of labels. -/
theorem label_row (x : Vec Ideal S100x512 .f32) (s : Fin 512) : k0_pay5 x (ix2 0 s) = BitVec.ofNat 32 (lab x s).val := by
  pointwise [k0_pay5]
  exact fold_first fun j => x (ix2 j s)

/-- The kernel's indicator of the labels. -/
theorem indicator (x : Vec Ideal S100x512 .f32) (j : Fin 100) (s : Fin 512) :
    k0_pay6 x (ix2 j s) = if j = lab x s then (1 : EReal) else 0 := by
  pointwise [k0_pay6]
  rw [label_row, cmpi_eq_ofNat (by omega) (by omega)]
  refine (sitofp_bit _ _).trans ?_
  simp only [decide_eq_true_eq, Fin.ext_iff]

/-- The kernel's labels cut into four rows. -/
theorem label_rows (x : Vec Ideal S100x512 .f32) (q : Fin 4) (l : Fin 128) :
    k0_pay7 x (ix2 q l) = BitVec.ofNat 32 (lab x ⟨q.val * 128 + l.val, by omega⟩).val := by
  pointwise [k0_pay7]
  exact label_row x _

/-! ### The cross entropies -/

/-- The word of the half of a row's number, as the kernel computes it. -/
theorem half_word : ∀ p : Fin 8, Scalar.select
      (IntOp.andi
        (IntOp.cmpi CmpIPredicate.ne
          (IntOp.subi (BitVec.setWidth 32 (IntOp.cmpi CmpIPredicate.sgt (BitVec.ofNat 32 p.val) 0#32))
            (BitVec.setWidth 32 (IntOp.cmpi CmpIPredicate.slt (BitVec.ofNat 32 p.val) 0#32)))
          (Scalar.subi (Scalar.extui (Scalar.cmpi CmpIPredicate.sgt 2#32 0#32))
            (Scalar.extui (Scalar.cmpi CmpIPredicate.slt 2#32 0#32))))
        (IntOp.cmpi CmpIPredicate.ne (IntOp.remsi ArithUnit.vector (BitVec.ofNat 32 p.val) 2#32) 0#32))
      (IntOp.subi (IntOp.divsi ArithUnit.vector (BitVec.ofNat 32 p.val) 2#32) 1#32)
      (IntOp.divsi ArithUnit.vector (BitVec.ofNat 32 p.val) 2#32) = BitVec.ofNat 32 (p.val / 2) := by
  decide +kernel

/-- The kernel's cross entropies. -/
theorem entropies_apply (x2 : Vec Ideal S100x8x128 .f32) (x3 : Vec Ideal S100x512 .f32) (p : Fin 8) (l : Fin 128) :
    entropies x2 x3 (ix2 p l)
      = entropy (fun j => x2 (ix3 j p l)) (lab x3 ⟨p.val / 2 * 128 + l.val, by omega⟩) := by
  unfold entropies
  pointwise [k0_pay11, k0_pay8, k0_pay9, k0_pay10]
  rw [half_word p]
  have hq : p.val / 2 < 4 := by omega
  have e : (∑ x : Fin 4, FloatOps.sitofp (F := Ideal) .f32
          (BitVec.setWidth 32 (IntOp.cmpi .eq (BitVec.ofNat 32 x.val) (BitVec.ofNat 32 (p.val / 2)))) *
        FloatOps.sitofp (F := Ideal) .bf16 (k0_pay7 x3 (ix2 x l)) : EReal)
      = (((lab x3 ⟨p.val / 2 * 128 + l.val, by omega⟩).val : ℝ) : EReal) := by
    rw [Finset.sum_eq_single (⟨p.val / 2, hq⟩ : Fin 4)]
    · rw [cmpi_eq_ofNat (by omega) (by omega), sitofp_bit, label_rows, sitofp_ofNat _ (by omega)]
      simp
    · intro b _ hb
      rw [cmpi_eq_ofNat (by omega) (by omega), sitofp_bit]
      have : ¬ b.val = p.val / 2 := fun h => hb (Fin.ext h)
      simp [this]
    · exact fun h => absurd (Finset.mem_univ _) h
  unfold entropy
  congr 1
  refine Eq.trans (Finset.sum_congr rfl fun j _ => ?_)
    (sum_pick (lab x3 ⟨p.val / 2 * 128 + l.val, by omega⟩) fun j => x2 (ix3 j p l))
  erw [e]
  erw [fptosi_natCast (by omega)]
  rw [cmpi_eq_ofNat (by omega) (by omega), select_bit]
  simp only [decide_eq_true_eq, Fin.ext_iff]

/-- The word of a row's remainder by two, as the kernel computes it. -/
theorem odd_word : ∀ p : Fin 8, Scalar.select
      (IntOp.andi
        (IntOp.xori
          (IntOp.cmpi CmpIPredicate.slt
            (IntOp.remsi ArithUnit.vector (BitVec.ofNat 32 p.val)
              (Scalar.select (Scalar.cmpi CmpIPredicate.eq 2#32 0#32) 1#32 2#32))
            0#32)
          (Scalar.cmpi CmpIPredicate.slt (Scalar.select (Scalar.cmpi CmpIPredicate.eq 2#32 0#32) 1#32 2#32) 0#32))
        (IntOp.cmpi CmpIPredicate.ne
          (IntOp.remsi ArithUnit.vector (BitVec.ofNat 32 p.val)
            (Scalar.select (Scalar.cmpi CmpIPredicate.eq 2#32 0#32) 1#32 2#32))
          0#32))
      (IntOp.addi
        (IntOp.remsi ArithUnit.vector (BitVec.ofNat 32 p.val)
          (Scalar.select (Scalar.cmpi CmpIPredicate.eq 2#32 0#32) 1#32 2#32))
        (Scalar.select (Scalar.cmpi CmpIPredicate.eq 2#32 0#32) 1#32 2#32))
      (IntOp.remsi ArithUnit.vector (BitVec.ofNat 32 p.val)
        (Scalar.select (Scalar.cmpi CmpIPredicate.eq 2#32 0#32) 1#32 2#32)) = BitVec.ofNat 32 (p.val % 2) := by
  decide +kernel

/-- The even one of a pair of rows. -/
def evenRow (q : Fin 4) : Fin 8 := ⟨2 * q.val, by omega⟩

/-- The odd one of a pair of rows. -/
def oddRow (q : Fin 4) : Fin 8 := ⟨2 * q.val + 1, by omega⟩

/-- The first head's sum: the even rows. -/
theorem sum_even (x : FVec Ideal S8x128 .f32) :
    k0_pay14 x k0_pay13 = ∑ q : Fin 4, ∑ l : Fin 128, (x (ix2 (evenRow q) l) : EReal) := by
  pointwise [k0_pay14, k0_pay13, k0_pay12]
  simp only [odd_word]
  simp only [cmpi_eq_ofNat (show _ % 2 < 2 ^ 32 by omega) (show 0 < 2 ^ 32 by omega), select_bit, Fin.sum_univ_eight,
    Fin.sum_univ_four]
  simp [evenRow, Scalar.select, show IntOp.cmpi .eq 0#32 0#32 = 1#1 by decide,
    show IntOp.cmpi .eq 1#32 0#32 = 0#1 by decide]

/-- The second head's sum: the odd rows. -/
theorem sum_odd (x : FVec Ideal S8x128 .f32) :
    k0_pay15 x k0_pay12 = ∑ q : Fin 4, ∑ l : Fin 128, (x (ix2 (oddRow q) l) : EReal) := by
  pointwise [k0_pay15, k0_pay12]
  simp only [odd_word]
  simp only [cmpi_eq_ofNat (show _ % 2 < 2 ^ 32 by omega) (show 1 < 2 ^ 32 by omega), select_bit, Fin.sum_univ_eight,
    Fin.sum_univ_four]
  simp [oddRow, Scalar.select, show IntOp.cmpi .eq 0#32 1#32 = 0#1 by decide,
    show IntOp.cmpi .eq 1#32 1#32 = 1#1 by decide]

/-! ### The polarization losses -/

/-- The target values of a block, picked by the indicator of the labels. -/
theorem picked (x3 : Vec Ideal S100x512 .f32) (v : Vec Ideal S64x100 .f32) (k : Fin 64) (s : Fin 512) :
    (∑ j : Fin 100, v (ix2 k j) * k0_pay6 x3 (ix2 j s) : EReal) = v (ix2 k (lab x3 s)) := by
  simp only [indicator]
  exact sum_mul_pick (lab x3 s) fun j => v (ix2 k j)

/-- The first head's polarization loss over a block. -/
theorem polar_first (x3 : Vec Ideal S100x512 .f32) (v : Vec Ideal S64x100 .f32) (h : Vec Ideal S1x64x512 .f32) :
    k0_pay19 (k0_pay6 x3) v h = ∑ k : Fin 64, ∑ s : Fin 512, gap (h (ix3 0 k s)) (v (ix2 k (lab x3 s))) := by
  pointwise [k0_pay19, k0_pay17, k0_pay16]
  refine Finset.sum_congr rfl fun k _ => Finset.sum_congr rfl fun s _ => ?_
  unfold gap
  rw [← picked x3 v k s]

/-- The second head's polarization loss over a block. -/
theorem polar_second (x3 : Vec Ideal S100x512 .f32) (v : Vec Ideal S64x100 .f32) (h : Vec Ideal S1x64x512 .f32) :
    k0_pay21 (k0_pay20 (k0_pay6 x3) v h) = ∑ k : Fin 64, ∑ s : Fin 512, gap (h (ix3 0 k s)) (v (ix2 k (lab x3 s))) := by
  pointwise [k0_pay21, k0_pay20, k0_pay18, k0_pay16]
  refine Finset.sum_congr rfl fun k _ => Finset.sum_congr rfl fun s _ => ?_
  unfold gap
  rw [← picked x3 v k s]

/-! ### The signs -/

/-- The number of negative hash values of a block. -/
theorem count_negative (a b : Vec Ideal S1x64x512 .f32) :
    k0_pay22 (k0_pay17 a) (k0_pay18 b)
      = (∑ k : Fin 64, ∑ s : Fin 512, negative (a (ix3 0 k s))) + ∑ k : Fin 64, ∑ s : Fin 512, negative (b (ix3 0 k s)) := by
  pointwise [k0_pay22, k0_pay17, k0_pay18]
  simp only [sitofp_bit, decide_eq_true_eq, negative]

/-- The number of positive hash values of a block. -/
theorem count_positive (a b : Vec Ideal S1x64x512 .f32) :
    k0_pay23 (k0_pay17 a) (k0_pay18 b)
      = (∑ k : Fin 64, ∑ s : Fin 512, positive (a (ix3 0 k s))) + ∑ k : Fin 64, ∑ s : Fin 512, positive (b (ix3 0 k s)) := by
  pointwise [k0_pay23, k0_pay17, k0_pay18]
  simp only [sitofp_bit, decide_eq_true_eq, positive]

/-! ### The two heads of a block of hash values, and the running sums -/

/-- The first head's part, at an entry. -/
theorem headA_apply (x : Vec Ideal S2x64x512 .f32) (k : Fin 64) (s : Fin 512) : headA x (ix3 0 k s) = x (ix3 0 k s) := by
  unfold headA
  blk_ext [] <;> rw [Rect.idx_unit_val] <;> simp

/-- The second head's part, at an entry. -/
theorem headB_apply (x : Vec Ideal S2x64x512 .f32) (k : Fin 64) (s : Fin 512) : headB x (ix3 0 k s) = x (ix3 1 k s) := by
  unfold headB
  blk_ext [] <;> rw [Rect.idx_unit_val] <;> simp

/-- The result is the loss of the six running sums. -/
theorem total_apply (a : Vec Ideal S8 .f32) (i : S1.Idx) :
    total a i = combine (a (cell 0)) (a (cell 1)) (a (cell 2)) (a (cell 3)) (a (cell 4)) (a (cell 5)) := by
  unfold total
  pointwise [k0_pay4]
  rfl

end Cert.KernelIdeal.Loss

end
-- ==== Proof.KernelIdeal.Launch.lean ====
/- The pipeline of eight grid points, and what the kernel leaves: the scratch buffer carries six running sums from point to
   point, and the result array ends at the value the last point stores. -/
module

public import proofs.«01_k».proof.Proof.KernelIdeal.Runs
public import Idealize.ShloMosaic.Lib.Claim
public import Idealize.ShloMosaic.Lib.Pipeline.Value

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- The first conditional holds at the first point only. -/
theorem isFirst_iff : ∀ t : Fin cfg0.N, isFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : (grid0.coords t 0).val = t.val := by omega
    simp only [isFirst, e1]
    word_cmp
   : ∀ t : Fin grid0.N, isFirst (grid0.coords t) ↔ t.val = 0)

/-- The second conditional holds at the last point only. -/
theorem isLast_iff : ∀ t : Fin cfg0.N, isLast (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    have e1 : (grid0.coords t 0).val = t.val := by omega
    simp only [isLast, k0_cond2, e1]
    word_cmp
   : ∀ t : Fin grid0.N, isLast (grid0.coords t) ↔ t.val = 7)

/-- The result's window is idle at every point but the last. -/
theorem result_idle : ∀ t : Fin cfg0.N, ¬isLast (grid0.coords t) → cfg0.idle 4 (grid0.coords t) = true := by decide +kernel
/-- The result is not written back at any point but the last. -/
theorem result_kept : ∀ t : Fin cfg0.N, ¬isLast (grid0.coords t) → (cfg0.win 4).flush t = false := by decide +kernel
/-- The result's window is live at the last point. -/
theorem result_live : ∀ t : Fin cfg0.N, isLast (grid0.coords t) → cfg0.idle 4 (grid0.coords t) = false := by decide +kernel

/-- The scratch buffer. -/
abbrev scratch : Memref sig .tc .smem S8 .f32 := Memref.whole cc0_scratch0

/-! ## The running sums -/

/-- What point `t` makes of the running sums: the body's addends at the point's blocks. -/
def stepAt (c : Dev nD) (t : Fin cfg0.N) (a : Vec F S8 .f32) : Vec F S8 .f32 :=
  step (iblk m c 0 t) (iblk m c 1 t) (iblk m c 2 t) (iblk m c 3 t) a

/-- The scratch buffer's contents after point `n`, over what it held before the first point. -/
def sums (c : Dev nD) : (n : ℕ) → n < cfg0.N → Vec F S8 .f32 → Vec F S8 .f32
  | 0, h, d => stepAt m c ⟨0, h⟩ (zeroed d)
  | n + 1, h, d => stepAt m c ⟨n + 1, h⟩ (sums c n (Nat.lt_of_succ_lt h) d)

/-- At the first point the sums start from zero. -/
theorem sums_first (c : Dev nD) (t : Fin cfg0.N) (hz : t.val = 0) (d : Vec F S8 .f32) :
    sums m c t.val t.isLt d = stepAt m c t (zeroed d) := by
  obtain ⟨n, hn⟩ := t
  dsimp only at hz
  subst hz
  rfl

/-- At a later point they continue from the point before. -/
theorem sums_next (c : Dev nD) (t : Fin cfg0.N) (hz : t.val ≠ 0) (d : Vec F S8 .f32) :
    sums m c t.val t.isLt d = stepAt m c t (sums m c (t.val - 1) (Nat.lt_of_le_of_lt (Nat.sub_le _ _) t.isLt) d) := by
  obtain ⟨n, hn⟩ := t
  cases n with
  | zero => exact absurd rfl hz
  | succ n => rfl

/-- A step's six sums depend on the six sums before it only. -/
theorem step_congr (x1 : Vec F S2x64x512 .f32) (x2 : Vec F S100x8x128 .f32) (x3 : Vec F S100x512 .f32) (x4 : Vec F S64x100 .f32)
    {a b : Vec F S8 .f32} (h : ∀ k : Fin 8, k.val < 6 → a (cell k) = b (cell k)) (k : Fin 8) (hk : k.val < 6) :
    step x1 x2 x3 x4 a (cell k) = step x1 x2 x3 x4 b (cell k) := by
  unfold step
  rw [h 0 (by decide), h 1 (by decide), h 2 (by decide), h 3 (by decide), h 4 (by decide), h 5 (by decide), h k hk]

/-- The six sums do not depend on what the scratch buffer held before the first point. -/
theorem sums_indep (c : Dev nD) (d d' : Vec F S8 .f32) : ∀ (n : ℕ) (h : n < cfg0.N) (k : Fin 8), k.val < 6 →
    sums m c n h d (cell k) = sums m c n h d' (cell k)
  | 0, h => step_congr _ _ _ _ fun k hk => by unfold zeroed; rw [if_pos (show (cell k 0).val < 6 from hk), if_pos (show (cell k 0).val < 6 from hk)]
  | n + 1, h => step_congr _ _ _ _ (sums_indep c d d' n (Nat.lt_of_succ_lt h))

/-- So neither does the result. -/
theorem total_indep (c : Dev nD) (d d' : Vec F S8 .f32) (n : ℕ) (h : n < cfg0.N) :
    total (sums m c n h d) = total (sums m c n h d') := by
  unfold total
  rw [sums_indep m c d d' n h 0 (by decide), sums_indep m c d d' n h 1 (by decide), sums_indep m c d d' n h 2 (by decide),
    sums_indep m c d d' n h 3 (by decide), sums_indep m c d d' n h 4 (by decide), sums_indep m c d d' n h 5 (by decide)]

/-- Contents to start the sums from when it does not matter which. -/
def blank : Vec F S8 .f32 := fun _ => Scalar.ofBits .f32 0x00000000#32

/-! ## The proof data -/

/-- What is held between points: the scratch buffer, at anything before the first point and at the running sums after a
    point, and the generator register. -/
def carried (c : Dev nD) : (n : ℕ) → n ≤ cfg0.N → sProp 𝕄
  | 0, _ => Pipeline.ΦA spec0 c
  | n + 1, hn => iprop((∃ d, owns (c : Thread nD τ) scratch fullShare (sums m c n hn d)) ∗ (∃ r, prngReg c r))

/-- Before the first point: the scratch buffer at anything. -/
theorem carried_zero (c : Dev nD) (n : ℕ) (h : n ≤ cfg0.N) (hz : n = 0) : carried m c n h = Pipeline.ΦA spec0 c := by
  subst hz; rfl

/-- After a point: the scratch buffer at the running sums. -/
theorem carried_succ (c : Dev nD) (n : ℕ) (hn : n < cfg0.N) :
    carried m c (n + 1) hn = iprop((∃ d, owns (c : Thread nD τ) scratch fullShare (sums m c n hn d)) ∗ (∃ r, prngReg c r)) := rfl

/-- At a later point: the scratch buffer at the sums of the point before. -/
theorem carried_pos (c : Dev nD) (n : ℕ) (h : n ≤ cfg0.N) (hz : n ≠ 0) :
    carried m c n h = iprop((∃ d, owns (c : Thread nD τ) scratch fullShare (sums m c (n - 1) (by omega) d)) ∗ (∃ r, prngReg c r)) := by
  cases n with
  | zero => exact absurd rfl hz
  | succ n => rfl

/-- What the launch hands the region, with the scratch buffer as owned at some contents. -/
theorem ΦA_eq (c : Dev nD) :
    (Pipeline.ΦA spec0 c : sProp 𝕄)
      = iprop((∃ d, owns (c : Thread nD τ) scratch fullShare d) ∗ (∃ r, prngReg c r)) := by
  unfold Pipeline.ΦA; rw [scopedRest0_eq]; simp only [scratch, owns_whole]; try rfl

/-- The pipeline's proof data on core `c`: each input's buffer is left at its block, the result's at the total of the sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => total (sums m c t.val t.isLt blank)
  Φ t := carried m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What is held at the start of a point. -/
theorem Φ_castSucc (c : Dev nD) (t : Fin cfg0.N) :
    (dats m 0 c).Φ t.castSucc = carried m c t.val (Nat.le_of_lt t.isLt) := by
  dsimp only [dats]; exact Pipeline.Dat.Φ_castSucc (carried m c) t

/-- A point leaves the block of hash values as it was. -/
theorem after_0 (c : Dev nD) (t : Fin cfg0.N) : (dats m 0 c).after 0 t = iblk m c 0 t := by dsimp only [dats]
/-- A point leaves the block of logits as it was. -/
theorem after_1 (c : Dev nD) (t : Fin cfg0.N) : (dats m 0 c).after 1 t = iblk m c 1 t := by dsimp only [dats]
/-- A point leaves the block of targets as it was. -/
theorem after_2 (c : Dev nD) (t : Fin cfg0.N) : (dats m 0 c).after 2 t = iblk m c 2 t := by dsimp only [dats]
/-- A point leaves the block of target vectors as it was. -/
theorem after_3 (c : Dev nD) (t : Fin cfg0.N) : (dats m 0 c).after 3 t = iblk m c 3 t := by dsimp only [dats]
/-- A point leaves the result's buffer at the total of the running sums. -/
theorem after_4 (c : Dev nD) (t : Fin cfg0.N) : (dats m 0 c).after 4 t = total (sums m c t.val t.isLt blank) := by dsimp only [dats]

/-- A point finds the block of hash values in its buffer. -/
theorem before_0 (c : Dev nD) (t : Fin cfg0.N) (d) : (dats m 0 c).before 0 t d = iblk m c 0 t :=
  before0_0_of m (dats m 0 c) (A_eq m c 0) (after_0 m c) t d
/-- A point finds the block of logits in its buffer. -/
theorem before_1 (c : Dev nD) (t : Fin cfg0.N) (d) : (dats m 0 c).before 1 t d = iblk m c 1 t :=
  before0_1_of m (dats m 0 c) (A_eq m c 1) (after_1 m c) t d
/-- A point finds the block of targets in its buffer. -/
theorem before_2 (c : Dev nD) (t : Fin cfg0.N) (d) : (dats m 0 c).before 2 t d = iblk m c 2 t :=
  before0_2_of m (dats m 0 c) (A_eq m c 2) (after_2 m c) t d
/-- A point finds the block of target vectors in its buffer. -/
theorem before_3 (c : Dev nD) (t : Fin cfg0.N) (d) : (dats m 0 c).before 3 t d = iblk m c 3 t :=
  before0_3_of m (dats m 0 c) (A_eq m c 3) (after_3 m c) t d

/-- An input's window is never idle: its buffer is left at its block. -/
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
/-- A point hands back the buffer of logits at its block. -/
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
/-- A point hands back the buffer of targets at its block. -/
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
/-- A point hands back the buffer of target vectors at its block. -/
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point, by the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, leaves_0, leaves_1, leaves_2, leaves_3]
  rw [show (dats m 0 c).owesAt () t.succ = (dats m 0 c).owesAt () t.castSucc from rfl]
  rw [show (dats m 0 c).Φ t.succ = carried m c (t.val + 1) t.isLt from rfl, carried_succ]
  by_cases h1 : t.val = 7
  · have hz : t.val ≠ 0 := by omega
    have hl : isLast (grid0.coords t) := (isLast_iff t).mpr h1
    rw [show (dats m 0 c).leavesExact 4 t = owns (c : Thread nD τ) (st0_4 t) fullShare (total (sums m c t.val t.isLt blank)) from by
      unfold Dat.leavesExact; rw [result_live t hl, after_4]]
    rw [Φ_castSucc m c t, carried_pos m c _ _ hz]
    iintro ⟨⟨⟨%ds, HS⟩, Hg⟩, Ho, ⟨%d0, H0⟩, ⟨%d1, H1⟩, ⟨%d2, H2⟩, ⟨%d3, H3⟩, ⟨%d4, H4⟩⟩
    rw [total_indep m c blank ds, sums_next m c t hz]
    iapply (run_last c (grid0.coords t) _ _ _ _ _ _ _ _ _ _ _ _ (fun h => hz ((isFirst_iff t).mp h)) hl
      (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexists ds; rw [sums_next m c t hz]; iexact HS
      iexact Hg
    isplitl [Ho]; · iexact Ho
    isplitl [H0]; · iexact H0
    isplitl [H1]; · iexact H1
    isplitl [H2]; · iexact H2
    isplitl [H3]; · iexact H3
    iexact H4
  · have hl : ¬isLast (grid0.coords t) := fun h => h1 ((isLast_iff t).mp h)
    rw [Dat.leavesExact_idle (dats m 0 c) 4 t (result_idle t hl) (result_kept t hl)]
    by_cases hz : t.val = 0
    · rw [Φ_castSucc m c t, carried_zero m c _ _ hz, ΦA_eq]
      iintro ⟨⟨⟨%ds, HS⟩, Hg⟩, Ho, ⟨%d0, H0⟩, ⟨%d1, H1⟩, ⟨%d2, H2⟩, ⟨%d3, H3⟩, ⟨%d4, H4⟩⟩
      iapply (run_first c (grid0.coords t) _ _ _ _ _ _ _ _ _ _ _ _ ((isFirst_iff t).mpr hz) hl
        (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists ds; rw [sums_first m c t hz]; iexact HS
        iexact Hg
      isplitl [Ho]; · iexact Ho
      isplitl [H0]; · iexact H0
      isplitl [H1]; · iexact H1
      isplitl [H2]; · iexact H2
      isplitl [H3]; · iexact H3
      iexists _; iexact H4
    · rw [Φ_castSucc m c t, carried_pos m c _ _ hz]
      iintro ⟨⟨⟨%ds, HS⟩, Hg⟩, Ho, ⟨%d0, H0⟩, ⟨%d1, H1⟩, ⟨%d2, H2⟩, ⟨%d3, H3⟩, ⟨%d4, H4⟩⟩
      iapply (run_mid c (grid0.coords t) _ _ _ _ _ _ _ _ _ _ _ _ (fun h => hz ((isFirst_iff t).mp h)) hl
        (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iexists ds; rw [sums_next m c t hz]; iexact HS
        iexact Hg
      isplitl [Ho]; · iexact Ho
      isplitl [H0]; · iexact H0
      isplitl [H1]; · iexact H1
      isplitl [H2]; · iexact H2
      isplitl [H3]; · iexact H3
      iexists _; iexact H4

/-- The body table's row at point `t`'s slots is the body at the point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- What is held after the last point gives it back. -/
theorem hout (c : Dev nD) : (dats m 0 c).Φ (Fin.last cfg0.N) ⊢ Pipeline.ΦA spec0 c := by
  have hN : (Fin.last cfg0.N).val ≠ 0 := by rw [Fin.val_last]; have : cfg0.N = 8 := N_0; omega
  rw [show (dats m 0 c).Φ (Fin.last cfg0.N) = carried m c (Fin.last cfg0.N).val (Nat.le_of_lt_succ (Fin.last cfg0.N).isLt) from rfl,
    carried_pos m c _ _ hN, ΦA_eq]
  iintro ⟨⟨%ds, HS⟩, Hg⟩
  isplitl [HS]
  · iexists _; iexact HS
  iexact Hg

/-! ## The run -/

set_option backward.isDefEq.respectTransparency.types false in
/-- The launch: every weakly fair execution terminates, the arrays end at what the proof data says, the other buffers as
    the region found them, every semaphore counter at zero. -/
theorem run_counters : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_arrays : θ_run defs (onTc (τ := τ) (main (F := F))) (s₀ m ρ) (Pipeline.FramePost cfgs (dats m) 0 (V m)) :=
  (θ_run defs _ _).mono (fun _ h => h.1) (run_counters m ρ)

/-- The frame: the kernel runs, its argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_arrays m ρ)) ((θ_run defs _ _).mono (fun _ h => h.2) (run_counters m ρ))

/-! ## The result -/

/-- The last grid point. -/
def lastPoint : Fin cfg0.N := ⟨7, by rw [show cfg0.N = 8 from N_0]; decide⟩

/-- The result array ends at the total of the running sums after the last point. -/
theorem arr_result (c : Dev nD) : (dats m 0 c).arrAt 4 cfg0.N = total (sums m c 7 lastPoint.isLt blank) :=
  (dats m 0 c).arrAt_eq_of_cover 4 (total (sums m c 7 lastPoint.isLt blank)) (fun t hf => by
    have hN : cfg0.N = 8 := N_0
    have h7 : t.val = 7 := by have := (flush0_4 t).mp hf; have := t.isLt; omega
    obtain rfl : t = lastPoint := Fin.ext h7
    show (cfg0.win 4).cut (grid0.coords lastPoint) ((dats m 0 c).after 4 lastPoint) = _
    rw [after_4]
    rfl) fun i =>
    ⟨lastPoint, (flush0_4 lastPoint).mpr rfl, by
      show i ∈ ((View.whole main_v7).slice (win0_4.rect lastPoint)).set
      rw [View.set_slice_whole, Rect.mem_set_unit]
      intro a
      have hi : (i a).val < 1 := by rw [Fin.fin_one_eq_zero a] at *; exact (i 0).isLt
      have ha : win0_4.index lastPoint a * 1 = 0 := by rw [Fin.fin_one_eq_zero a]; decide
      rw [Fin.fin_one_eq_zero a] at *
      constructor
      · show win0_4.index lastPoint 0 * 1 ≤ (i 0).val
        omega
      · show (i 0).val < win0_4.index lastPoint 0 * 1 + 1
        omega⟩

/-- The run with the result named and the arguments unchanged. -/
theorem run_result : θ_run defs (onTc (τ := τ) (main (F := F))) ⟨m, fun _ => 0, ρ⟩ (fun r => ∀ c : Dev nD,
      r.2.mem ((c.tc : Thread nD τ).loc main_v7) = total (sums m c 7 lastPoint.isLt blank)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 4).trans (arr_result m c), h.2.1 c⟩)
    (θ_run_and (run_arrays m ρ) (frame m ρ))

end Cert.KernelIdeal.Loss

end
-- ==== Proof.KernelIdeal.Reads.lean ====
module

public import proofs.«01_k».proof.Proof.KernelIdeal.Launch
public import Idealize.ShloMosaic.Lib.Pointwise
public import Idealize.ShloMosaic.Lib.Pipeline.ValueKit
public import Idealize.ShloMosaic.Lib.Claim

@[expose] public section

set_option maxRecDepth 16384

/-!
# What the input blocks of a grid point hold, read off the argument arrays
-/

noncomputable section

namespace Cert.KernelIdeal.Loss

open Cert.KernelIdeal Cert.KernelIdeal.Gen Idealize.ShloMosaic Idealize.ShloMosaic.TcCoe

variable {F : FTy → Type} [FloatOps F]
variable (m : (ℓ : Loc nD τ sig) → Buf (Elt F) ℓ) (c : Dev nD)

/-- There are eight grid points. -/
theorem lt8 (t : Fin cfg0.N) : t.val < 8 := Nat.lt_of_lt_of_eq t.isLt N_0

/-- The block indices of the four input windows at a grid point. -/
theorem index_all : ∀ t : Fin cfg0.N, win0_0.index t = ![0, 0, t.val]
    ∧ win0_1.index t = ![0, t.val, 0] ∧ win0_2.index t = ![0, t.val] ∧ win0_3.index t = ![0, 0] := by
  decide +kernel

/-- The block of hash values: those of the point's 512 samples, transposed. -/
theorem hash_block (t : Fin cfg0.N) (h : Fin 2) (k : Fin 64) (s : Fin 512) (hr : 512 * t.val + s.val < 4096) :
    iblk m c 0 t (ix3 h k s) = m ((c.tc : Thread nD τ).loc main_arg0) (ix3 h ⟨512 * t.val + s.val, hr⟩ k) := by
  have e := (index_all t).1
  blk_simp [iblk, e]
  entry_read
  pointwise
  blk_ext [e]

/-- The block of logits: row `p` holds head `p % 2` of 128 of the point's samples, the quarter `p / 2`. -/
theorem logits_block (t : Fin cfg0.N) (j : Fin 100) (p : Fin 8) (l : Fin 128) (hr : 512 * t.val + (128 * (p.val / 2) + l.val) < 4096) :
    iblk m c 1 t (ix3 j p l) = m ((c.tc : Thread nD τ).loc main_arg1) (ix3 ⟨p.val % 2, Nat.mod_lt _ (by decide)⟩ ⟨512 * t.val + (128 * (p.val / 2) + l.val), hr⟩ j) := by
  have e := (index_all t).2.1
  blk_simp [iblk, e]
  entry_read
  pointwise
  blk_ext [e]

/-- The block of targets: those of the point's 512 samples, transposed. -/
theorem target_block (t : Fin cfg0.N) (j : Fin 100) (s : Fin 512) (hr : 512 * t.val + s.val < 4096) :
    iblk m c 2 t (ix2 j s) = m ((c.tc : Thread nD τ).loc main_arg2) (ix2 ⟨512 * t.val + s.val, hr⟩ j) := by
  have e := (index_all t).2.2.1
  blk_simp [iblk, e]
  entry_read
  pointwise
  blk_ext [e]

/-- The block of target vectors: all of them, transposed. -/
theorem vector_block (t : Fin cfg0.N) (k : Fin 64) (j : Fin 100) :
    iblk m c 3 t (ix2 k j) = m ((c.tc : Thread nD τ).loc main_arg4) (ix2 j k) := by
  have e := (index_all t).2.2.2
  blk_simp [iblk, e]
  entry_read
  pointwise
  blk_ext [e]

end Cert.KernelIdeal.Loss

end
-- ==== Proof.KernelIdeal.Value.lean ====
module

public import proofs.«01_k».proof.Proof.KernelIdeal.Block
public import proofs.«01_k».proof.Proof.KernelIdeal.Reads

@[expose] public section

set_option maxRecDepth 16384

/-!
# The kernel's result is the loss of all samples
-/

noncomputable section

namespace Cert.KernelIdeal.Loss

open Cert.KernelIdeal Cert.KernelIdeal.Gen Cert.Loss Idealize.ShloMosaic Idealize.ShloMosaic.TcCoe

variable (m : (ℓ : Loc nD τ sig) → Buf (Elt Ideal) ℓ) (c : Dev nD)

/-- The hash values. -/
def hashes (h : Fin 2) (r : Fin 4096) (k : Fin 64) : EReal := m ((c.tc : Thread nD τ).loc main_arg0) (ix3 h r k)

/-- The logits. -/
def logits (h : Fin 2) (r : Fin 4096) (j : Fin 100) : EReal := m ((c.tc : Thread nD τ).loc main_arg1) (ix3 h r j)

/-- The targets. -/
def targets (r : Fin 4096) (j : Fin 100) : EReal := m ((c.tc : Thread nD τ).loc main_arg2) (ix2 r j)

/-- The target vectors. -/
def vectors (j : Fin 100) (k : Fin 64) : EReal := m ((c.tc : Thread nD τ).loc main_arg4) (ix2 j k)

/-- The block of samples a point works on. -/
def block (t : Fin cfg0.N) : Fin 8 := ⟨t.val, lt8 t⟩

/-- A label of the block is the label of the sample. -/
theorem lab_block (t : Fin cfg0.N) (s : Fin 512) (hr : 512 * t.val + s.val < 4096) :
    lab (iblk m c 2 t) s = first (targets m c ⟨512 * t.val + s.val, hr⟩) := by
  unfold lab targets
  exact congrArg first (funext fun j => target_block m c t j s hr)

/-- The cross entropy in an entry of the block is that of a sample and a head. -/
theorem entropies_block (t : Fin cfg0.N) (p : Fin 8) (l : Fin 128) (h : Fin 2) (hh : p.val % 2 = h.val)
    (hr : 512 * t.val + (128 * (p.val / 2) + l.val) < 4096) :
    entropies (iblk m c 1 t) (iblk m c 2 t) (ix2 p l)
      = entropy (logits m c h ⟨512 * t.val + (128 * (p.val / 2) + l.val), hr⟩)
          (first (targets m c ⟨512 * t.val + (128 * (p.val / 2) + l.val), hr⟩)) := by
  rw [entropies_apply]
  refine congrArg₂ entropy (funext fun j => ?_) ?_
  · rw [logits_block m c t j p l hr]
    unfold logits
    exact congrArg (fun a => m ((c.tc : Thread nD τ).loc main_arg1) (ix3 a _ j)) (Fin.ext hh)
  · rw [lab_block m c t _ (by show 512 * t.val + (p.val / 2 * 128 + l.val) < 4096; omega)]
    refine congrArg (fun r => first (targets m c r)) (Fin.ext ?_)
    show 512 * t.val + (p.val / 2 * 128 + l.val) = 512 * t.val + (128 * (p.val / 2) + l.val)
    omega

/-- What a point adds to the first sum. -/
theorem step_cell0 (t : Fin cfg0.N) (a : Vec Ideal S8 .f32) :
    stepAt m c t a (cell 0) = a (cell 0) + blockSum (fun r => entropy (logits m c 0 r) (first (targets m c r))) (block t) := by
  have h8 := lt8 t
  show k0_pay24 (k0_pay14 (entropies (iblk m c 1 t) (iblk m c 2 t)) k0_pay13) (a (cell 0)) = _
  pointwise [k0_pay24]
  rw [sum_even, ← blockSum_quarters]
  refine congrArg (a (cell 0) + ·) (Finset.sum_congr rfl fun q _ => Finset.sum_congr rfl fun l _ => ?_)
  have e : (evenRow q).val / 2 = q.val := by show 2 * q.val / 2 = q.val; omega
  rw [entropies_block m c t _ l 0 (by show 2 * q.val % 2 = 0; omega) (by rw [e]; omega)]
  simp only [e]
  rfl

/-- What a point adds to the second sum. -/
theorem step_cell1 (t : Fin cfg0.N) (a : Vec Ideal S8 .f32) :
    stepAt m c t a (cell 1) = a (cell 1) + blockSum (fun r => entropy (logits m c 1 r) (first (targets m c r))) (block t) := by
  have h8 := lt8 t
  show k0_pay25 (k0_pay15 (entropies (iblk m c 1 t) (iblk m c 2 t)) k0_pay12) (a (cell 1)) = _
  pointwise [k0_pay25]
  rw [sum_odd, ← blockSum_quarters]
  refine congrArg (a (cell 1) + ·) (Finset.sum_congr rfl fun q _ => Finset.sum_congr rfl fun l _ => ?_)
  have e : (oddRow q).val / 2 = q.val := by show (2 * q.val + 1) / 2 = q.val; omega
  rw [entropies_block m c t _ l 1 (by show (2 * q.val + 1) % 2 = 1; omega) (by rw [e]; omega)]
  simp only [e]
  rfl

/-- The polarization losses of a block, sample by sample. -/
theorem polar_block (t : Fin cfg0.N) (h : Fin 2) (x : Vec Ideal S1x64x512 .f32)
    (hx : ∀ k s, x (ix3 0 k s) = iblk m c 0 t (ix3 h k s)) :
    (∑ k : Fin 64, ∑ s : Fin 512, gap (x (ix3 0 k s)) (iblk m c 3 t (ix2 k (lab (iblk m c 2 t) s))))
      = blockSum (fun r => ∑ k, gap (hashes m c h r k) (vectors m c (first (targets m c r)) k)) (block t) := by
  have h8 := lt8 t
  rw [Finset.sum_comm]
  refine Finset.sum_congr rfl fun s _ => Finset.sum_congr rfl fun k _ => ?_
  rw [hx, hash_block m c t h k s (by omega), lab_block m c t s (by omega), vector_block]
  rfl

/-- What a point adds to the third sum. -/
theorem step_cell2 (t : Fin cfg0.N) (a : Vec Ideal S8 .f32) :
    stepAt m c t a (cell 2) = a (cell 2)
      + blockSum (fun r => ∑ k, gap (hashes m c 0 r k) (vectors m c (first (targets m c r)) k)) (block t) := by
  show k0_pay26 (k0_pay19 (k0_pay6 (iblk m c 2 t)) (iblk m c 3 t) (headA (iblk m c 0 t))) (a (cell 2)) = _
  pointwise [k0_pay26]
  rw [polar_first, polar_block m c t 0 _ (headA_apply _)]

/-- What a point adds to the fourth sum. -/
theorem step_cell3 (t : Fin cfg0.N) (a : Vec Ideal S8 .f32) :
    stepAt m c t a (cell 3) = a (cell 3)
      + blockSum (fun r => ∑ k, gap (hashes m c 1 r k) (vectors m c (first (targets m c r)) k)) (block t) := by
  show k0_pay1 (k0_pay21 (k0_pay20 (k0_pay6 (iblk m c 2 t)) (iblk m c 3 t) (headB (iblk m c 0 t)))) (a (cell 3)) = _
  pointwise [k0_pay1]
  rw [polar_second, polar_block m c t 1 _ (headB_apply _)]

/-- A count over a block, sample by sample. -/
theorem count_block (w : EReal → EReal) (t : Fin cfg0.N) :
    (∑ k : Fin 64, ∑ s : Fin 512, w (headA (iblk m c 0 t) (ix3 0 k s)))
        + (∑ k : Fin 64, ∑ s : Fin 512, w (headB (iblk m c 0 t) (ix3 0 k s)))
      = blockSum (fun r => ∑ k, w (hashes m c 0 r k) + ∑ k, w (hashes m c 1 r k)) (block t) := by
  have h8 := lt8 t
  unfold blockSum
  rw [Finset.sum_add_distrib]
  refine congrArg₂ (· + ·) ?_ ?_
  · rw [Finset.sum_comm]
    refine Finset.sum_congr rfl fun s _ => Finset.sum_congr rfl fun k _ => congrArg w ?_
    exact (headA_apply _ k s).trans (hash_block m c t 0 k s (by omega))
  · rw [Finset.sum_comm]
    refine Finset.sum_congr rfl fun s _ => Finset.sum_congr rfl fun k _ => congrArg w ?_
    exact (headB_apply _ k s).trans (hash_block m c t 1 k s (by omega))

/-- What a point adds to the fifth sum. -/
theorem step_cell4 (t : Fin cfg0.N) (a : Vec Ideal S8 .f32) :
    stepAt m c t a (cell 4) = a (cell 4)
      + blockSum (fun r => ∑ k, negative (hashes m c 0 r k) + ∑ k, negative (hashes m c 1 r k)) (block t) := by
  show k0_pay2 (k0_pay22 (k0_pay17 (headA (iblk m c 0 t))) (k0_pay18 (headB (iblk m c 0 t)))) (a (cell 4)) = _
  pointwise [k0_pay2]
  rw [count_negative, count_block m c negative t]

/-- What a point adds to the sixth sum. -/
theorem step_cell5 (t : Fin cfg0.N) (a : Vec Ideal S8 .f32) :
    stepAt m c t a (cell 5) = a (cell 5)
      + blockSum (fun r => ∑ k, positive (hashes m c 0 r k) + ∑ k, positive (hashes m c 1 r k)) (block t) := by
  show k0_pay3 (k0_pay23 (k0_pay17 (headA (iblk m c 0 t))) (k0_pay18 (headB (iblk m c 0 t)))) (a (cell 5)) = _
  pointwise [k0_pay3]
  rw [count_positive, count_block m c positive t]

/-- A running sum that every point adds a block's share to ends at the sum over all samples. -/
theorem sums_last (i : Fin 8) (hi : i.val < 6) (g : Fin 4096 → EReal)
    (hg : ∀ t a, stepAt m c t a (cell i) = a (cell i) + blockSum g (block t)) (h : 7 < cfg0.N) (d : Vec Ideal S8 .f32) :
    sums m c 7 h d (cell i) = ∑ r, g r := by
  have hz : zeroed d (cell i) = (0 : EReal) := by
    unfold zeroed
    rw [if_pos (show ((cell i) 0).val < 6 from hi)]
    exact Ideal.ofBits_zero_f32
  simp only [sums]
  rw [hg, hg, hg, hg, hg, hg, hg, hg, hz, zero_add, ← sum_blockSum, Fin.sum_univ_eight]
  rfl

/-- The kernel's result is the loss of all samples. -/
theorem total_sums (h : 7 < cfg0.N) (d : Vec Ideal S8 .f32) (i : S1.Idx) :
    total (sums m c 7 h d) i = value (hashes m c) (logits m c) (targets m c) (vectors m c) := by
  rw [total_apply, sums_last m c 0 (by decide) _ (step_cell0 m c), sums_last m c 1 (by decide) _ (step_cell1 m c),
    sums_last m c 2 (by decide) _ (step_cell2 m c), sums_last m c 3 (by decide) _ (step_cell3 m c),
    sums_last m c 4 (by decide) _ (step_cell4 m c), sums_last m c 5 (by decide) _ (step_cell5 m c)]
  rfl

end Cert.KernelIdeal.Loss

end
-- ==== Proof.ReferenceIdeal.Terms.lean ====
module

public import proofs.«01_k».proof.Proof.Gen.ReferenceIdeal

@[expose] public section

/-!
# The loss as the reference computes it, piece by piece

Each definition is one named step of the reference, as a function of whole arrays.
-/

noncomputable section

namespace Cert.ReferenceIdeal.Loss

open Cert.ReferenceIdeal Cert.ReferenceIdeal.Gen Idealize.ShloMosaic Idealize.ShloMosaic.TcCoe Idealize.SL.Sem
  Idealize.ShloMosaic.StableHlo

variable {F : FTy → Type} [FloatOps F]

/-- The arrays of shape `s` with entries of type `t`. -/
abbrev Arr (F : FTy → Type) [FloatOps F] (s : Shape) (t : EltTy) : Type := (BufTy.mk s t).Contents (Elt F)

/-- The label of every sample: the position of the largest entry of its row of targets. -/
def labels (t : Arr F S4096x100 .f32) : Arr F S4096 .i32 :=
  fun j => (Host.argReduce reducer_argmax_f32_i32 t (iotaInDim S4096x100 32 1) (constant S_ .f32 0xFF800000#32)
    (constantI S_ 32 0#32) reducesTo_S4096x100_S4096_d1 h_S_ j).2

/-- The logits of the first head. -/
def logits0 (x : Arr F S2x4096x100 .f32) : Arr F S4096x100 .f32 :=
  shapeCast _ (extractStridedSlice S1x4096x100 ![0, 0, 0] x slices_S2x4096x100_S1x4096x100_0_0_0)
    shapeCasts_S1x4096x100_S4096x100

/-- The logits of the second head. -/
def logits1 (x : Arr F S2x4096x100 .f32) : Arr F S4096x100 .f32 :=
  shapeCast _ (extractStridedSlice S1x4096x100 ![1, 0, 0] x slices_S2x4096x100_S1x4096x100_1_0_0)
    shapeCasts_S1x4096x100_S4096x100

/-- The logits with every row's largest entry taken off. -/
def shifted (y : Arr F S4096x100 .f32) : Arr F S4096x100 .f32 :=
  subf y (broadcastInDim S4096x100 ![0, 1] bcast_S4096x1_S4096x100_0_1
    (broadcastInDim S4096x1 ![0] bcast_S4096_S4096x1_0
      (maximumf (broadcastInDim S4096 ![] bcast_S_S4096 (constant S_ .f32 0xFF800000#32))
        (Host.reduce FloatOps.maximumf y (constant S_ .f32 0xFF800000#32) reducesTo_S4096x100_S4096_d1 h_S_))))

/-- The logarithm of the softmax of every row. -/
def logSoftmax (y : Arr F S4096x100 .f32) : Arr F S4096x100 .f32 :=
  subf (shifted y) (broadcastInDim S4096x100 ![0, 1] bcast_S4096x1_S4096x100_0_1
    (Host.log (broadcastInDim S4096x1 ![0] bcast_S4096_S4096x1_0
      (Host.reduceAdd (Host.exp (shifted y)) (constant S_ .f32 0x00000000#32) reducesTo_S4096x100_S4096_d1 h_S_))))

/-- The labels as positions in a row of a hundred, a negative one counted from the end. -/
def places (l : Arr F S4096 .i32) : Arr F S4096x1x1 .i32 :=
  shapeCast _ (select
      (cmpi .slt (broadcastInDim S4096x1 ![0] bcast_S4096_S4096x1_0 l)
        (broadcastInDim S4096x1 ![] bcast_S_S4096x1 (constantI S_ 32 0#32)))
      (addi (broadcastInDim S4096x1 ![0] bcast_S4096_S4096x1_0 l)
        (broadcastInDim S4096x1 ![] bcast_S_S4096x1 (constantI S_ 32 100#32)))
      (broadcastInDim S4096x1 ![0] bcast_S4096_S4096x1_0 l))
    shapeCasts_S4096x1_S4096x1x1

/-- Whether every place lies in the row. -/
def inRow (w : Arr F S4096x1x1 .i32) : Arr F S4096x1 .i1 :=
  Host.reduce IntOp.andi
    (andi (cmpi .sge w (broadcastInDim S4096x1x1 ![] bcast_S_S4096x1x1 (constantI S_ 32 0#32)))
      (cmpi .sle w (broadcastInDim S4096x1x1 ![0, 1, 2] bcast_S1x1x1_S4096x1x1_0_1_2
        (broadcastInDim S1x1x1 ![2] bcast_S1_S1x1x1_2 (constantI S1 32 99#32)))))
    (constantI S_ 1 1#1) reducesTo_S4096x1x1_S4096x1_d2 h_S_

/-- Every row's entry at its place. -/
def entryAt (y : Arr F S4096x100 .f32) (w : Arr F S4096x1x1 .i32) : Arr F S4096x1 .f32 :=
  select (inRow w) (Host.gather gather_S4096x100_S4096x1x1_S4096x1_n_1_0_0_1_2_11 y w)
    (broadcastInDim S4096x1 ![] bcast_S_S4096x1 (constant S_ .f32 0x7FC00000#32))

/-- The mean cross entropy of one head. -/
def crossEntropy (y : Arr F S4096x100 .f32) (l : Arr F S4096 .i32) : Arr F S_ .f32 :=
  Host.negf (Host.divf (Host.reduceAdd (entryAt (logSoftmax y) (places l)) (constant S_ .f32 0x00000000#32)
    reducesTo_S4096x1_S_d0_1 h_S_) (constant S_ .f32 0x45800000#32))

/-- The hash values of the first head. -/
def hash0 (x : Arr F S2x4096x64 .f32) : Arr F S4096x64 .f32 :=
  shapeCast _ (extractStridedSlice S1x4096x64 ![0, 0, 0] x slices_S2x4096x64_S1x4096x64_0_0_0)
    shapeCasts_S1x4096x64_S4096x64

/-- The hash values of the second head. -/
def hash1 (x : Arr F S2x4096x64 .f32) : Arr F S4096x64 .f32 :=
  shapeCast _ (extractStridedSlice S1x4096x64 ![1, 0, 0] x slices_S2x4096x64_S1x4096x64_1_0_0)
    shapeCasts_S1x4096x64_S4096x64

/-- The target vector of every sample: the row of `v` its label names. -/
def targetRows (v : Arr F S100x64 .f32) (l : Arr F S4096 .i32) : Arr F S4096x64 .f32 :=
  Host.gather gather_S100x64_S4096x1_S4096x64_1_0_n_n_0_1_164 v
    (broadcastInDim S4096x1 ![0] bcast_S4096_S4096x1_0
      (select (cmpi .slt l (broadcastInDim S4096 ![] bcast_S_S4096 (constantI S_ 32 0#32)))
        (addi l (broadcastInDim S4096 ![] bcast_S_S4096 (constantI S_ 32 100#32))) l))

/-- The mean polarization loss of one head. -/
def polarization (h t : Arr F S4096x64 .f32) : Arr F S_ .f32 :=
  Host.divf (Host.reduceAdd (maximumf (broadcastInDim S4096x64 ![] bcast_S_S4096x64 (id (constant S_ .f32 0x00000000#32)))
      (subf (broadcastInDim S4096x64 ![] bcast_S_S4096x64 (constant S_ .f32 0x41800000#32)) (mulf h t)))
    (constant S_ .f32 0x00000000#32) reducesTo_S4096x64_S_d0_1 h_S_) (constant S_ .f32 0x48800000#32)

/-- Two arrays of hash values, side by side. -/
def sideBySide (a b : Arr F S4096x64 .f32) : Arr F S4096x128 .f32 :=
  concatenate S4096x128 1 [⟨S4096x64, a⟩, ⟨S4096x64, b⟩] concatenates_S4096x64_S4096x64_S4096x128_d1

/-- The part of twice the entries of `s` that equal the number with bits `b`, as a share of twice their count. -/
def share (s : Arr F S4096x128 .f32) (b : BitVec 32) : Arr F S_ .f32 :=
  Host.divf (Host.reduceAdd (uitofp .f32 (cmpf .oeq s
      (broadcastInDim S4096x128 ![] bcast_S_S4096x128 (constant S_ .f32 b))))
    (constant S_ .f32 0x00000000#32) reducesTo_S4096x128_S_d0_1 h_S_) (constant S_ .f32 0x49800000#32)

/-- The logarithm to base two. -/
def logTwo (p : Arr F S_ .f32) : Arr F S_ .f32 :=
  mulf (Host.log p) (broadcastInDim S_ ![] bcast_S_S_ (constant S_ .f32 0x3FB8AA3B#32))

/-- The balance of the signs: from the share `p` of negative and the share `q` of positive hash values. -/
def balance (p q : Arr F S_ .f32) : Arr F S_ .f32 :=
  Host.absf (addf (mulf (Host.negf p) (logTwo p)) (mulf q (logTwo q)))

/-- The loss, as one array of one entry. -/
def loss (x0 : Arr F S2x4096x64 .f32) (x1 : Arr F S2x4096x100 .f32) (x2 : Arr F S4096x100 .f32) (x4 : Arr F S100x64 .f32) :
    Arr F S1 .f32 :=
  shapeCast _
    (addf
      (addf
        (addf (mulf (constant S_ .f32 0x3F000000#32) (crossEntropy (logits0 x1) (labels x2)))
          (mulf (constant S_ .f32 0x3F000000#32) (crossEntropy (logits1 x1) (labels x2))))
        (mulf (constant S_ .f32 0x3DCCCCCD#32)
          (addf (polarization (hash0 x0) (targetRows x4 (labels x2))) (polarization (hash1 x0) (targetRows x4 (labels x2))))))
      (mulf (constant S_ .f32 0x3DCCCCCD#32)
        (balance (share (Host.sign (sideBySide (hash0 x0) (hash1 x0))) 0xBF800000#32)
          (share (Host.sign (sideBySide (hash0 x0) (hash1 x0))) 0x3F800000#32))))
    shapeCasts_S_S1

end Cert.ReferenceIdeal.Loss

end
-- ==== Proof.ReferenceIdeal.Run.lean ====
module

public import proofs.«01_k».proof.Proof.Gen.ReferenceIdeal
public import proofs.«01_k».proof.Proof.ReferenceIdeal.Terms
public import Idealize.ShloMosaic.Lib.StableHlo.Run
public import Idealize.ShloMosaic.Lib.Quiescent

@[expose] public section

/-!
# The run of the reference

The reference is a straight line of operations on whole arrays. It ends, its result is the loss of the
arguments, and the arguments stand.
-/

noncomputable section

namespace Cert.ReferenceIdeal.Loss

open Cert.ReferenceIdeal Cert.ReferenceIdeal.Gen Idealize.ShloMosaic Idealize.ShloMosaic.TcCoe Idealize.SL.Sem
  Idealize.ShloMosaic.StableHlo

variable {F : FTy → Type} [FloatOps F]

/-- The operations of the reference, in order; an operation of a called function stands where the call stands. -/
abbrev ops : List (HloOp τ sig (Elt F)) :=
  [ TRef.nullary (TRef.of (T := ⟨S4096x100, .i32⟩) main_call0_v0) (iotaInDim S4096x100 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S4096x100, .f32⟩) main_arg2) (TRef.of (T := ⟨S4096x100, .i32⟩) main_call0_v0) (TRef.of (T := ⟨S_, .f32⟩) main_call0_cst) (TRef.of (T := ⟨S_, .i32⟩) main_call0_c) (TRef.of (T := ⟨S4096, .f32⟩) main_call0_v1_0) (fun x y u v j => (Host.argReduce reducer_argmax_f32_i32 x y u v reducesTo_S4096x100_S4096_d1 h_S_ j).1),
    TRef.quaternary (TRef.of (T := ⟨S4096x100, .f32⟩) main_arg2) (TRef.of (T := ⟨S4096x100, .i32⟩) main_call0_v0) (TRef.of (T := ⟨S_, .f32⟩) main_call0_cst) (TRef.of (T := ⟨S_, .i32⟩) main_call0_c) (TRef.of (T := ⟨S4096, .i32⟩) main_v0) (fun x y u v j => (Host.argReduce reducer_argmax_f32_i32 x y u v reducesTo_S4096x100_S4096_d1 h_S_ j).2),
    unary main_arg1 main_v1 ((extractStridedSlice S1x4096x100 ![0, 0, 0] · slices_S2x4096x100_S1x4096x100_0_0_0) : (⟨S2x4096x100, .f32⟩ : BufTy).Contents (Elt F) → (⟨S1x4096x100, .f32⟩ : BufTy).Contents (Elt F)),
    reshape main_v1 main_v2 (rfl : (.f32 : EltTy) = .f32) shapeCasts_S1x4096x100_S4096x100,
    TRef.nullary (TRef.of (T := ⟨S_, .f32⟩) main_call1_cst) (constant S_ .f32 0xFF800000#32),
    TRef.binary (TRef.of (T := ⟨S4096x100, .f32⟩) main_v2) (TRef.of (T := ⟨S_, .f32⟩) main_call1_cst) (TRef.of (T := ⟨S4096, .f32⟩) main_call1_v0) (fun x v => Host.reduce FloatOps.maximumf x v reducesTo_S4096x100_S4096_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4096, .f32⟩) main_call1_v1) (broadcastInDim S4096 ![] bcast_S_S4096),
    TRef.binary (TRef.of (T := ⟨S4096, .f32⟩) main_call1_v1) (TRef.of (T := ⟨S4096, .f32⟩) main_call1_v0) (TRef.of (T := ⟨S4096, .f32⟩) main_call1_v2) maximumf,
    TRef.unary (TRef.of (T := ⟨S4096, .f32⟩) main_call1_v2) (TRef.of (T := ⟨S4096x1, .f32⟩) main_call1_v3) (broadcastInDim S4096x1 ![0] bcast_S4096_S4096x1_0),
    TRef.unary (TRef.of (T := ⟨S4096x1, .f32⟩) main_call1_v3) (TRef.of (T := ⟨S4096x100, .f32⟩) main_call1_v4) (broadcastInDim S4096x100 ![0, 1] bcast_S4096x1_S4096x100_0_1),
    TRef.binary (TRef.of (T := ⟨S4096x100, .f32⟩) main_v2) (TRef.of (T := ⟨S4096x100, .f32⟩) main_call1_v4) (TRef.of (T := ⟨S4096x100, .f32⟩) main_call1_v5) subf,
    TRef.unary (TRef.of (T := ⟨S4096x100, .f32⟩) main_call1_v5) (TRef.of (T := ⟨S4096x100, .f32⟩) main_call1_v6) Host.exp,
    TRef.nullary (TRef.of (T := ⟨S_, .f32⟩) main_call1_cst_1) (constant S_ .f32 0x00000000#32),
    TRef.binary (TRef.of (T := ⟨S4096x100, .f32⟩) main_call1_v6) (TRef.of (T := ⟨S_, .f32⟩) main_call1_cst_1) (TRef.of (T := ⟨S4096, .f32⟩) main_call1_v7) (fun x v => Host.reduceAdd x v reducesTo_S4096x100_S4096_d1 h_S_),
    TRef.unary (TRef.of (T := ⟨S4096, .f32⟩) main_call1_v7) (TRef.of (T := ⟨S4096x1, .f32⟩) main_call1_v8) (broadcastInDim S4096x1 ![0] bcast_S4096_S4096x1_0),
    TRef.unary (TRef.of (T := ⟨S4096x1, .f32⟩) main_call1_v8) (TRef.of (T := ⟨S4096x1, .f32⟩) main_call1_v9) Host.log,
    TRef.unary (TRef.of (T := ⟨S4096x1, .f32⟩) main_call1_v9) (TRef.of (T := ⟨S4096x100, .f32⟩) main_call1_v10) (broadcastInDim S4096x100 ![0, 1] bcast_S4096x1_S4096x100_0_1),
    TRef.binary (TRef.of (T := ⟨S4096x100, .f32⟩) main_call1_v5) (TRef.of (T := ⟨S4096x100, .f32⟩) main_call1_v10) (TRef.of (T := ⟨S4096x100, .f32⟩) main_v3) subf,
    unary main_v0 main_v4 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4096x1, .i32⟩) main_call2_v0) (broadcastInDim S4096x1 ![] bcast_S_S4096x1),
    TRef.binary (TRef.of (T := ⟨S4096x1, .i32⟩) main_v4) (TRef.of (T := ⟨S4096x1, .i32⟩) main_call2_v0) (TRef.of (T := ⟨S4096x1, .i1⟩) main_call2_v1) (cmpi .slt),
    TRef.nullary (TRef.of (T := ⟨S_, .i32⟩) main_call2_c_0) (constantI S_ 32 100#32),
    TRef.unary (TRef.of (T := ⟨S_, .i32⟩) main_call2_c_0) (TRef.of (T := ⟨S4096x1, .i32⟩) main_call2_v2) (broadcastInDim S4096x1 ![] bcast_S_S4096x1),
    TRef.binary (TRef.of (T := ⟨S4096x1, .i32⟩) main_v4) (TRef.of (T := ⟨S4096x1, .i32⟩) main_call2_v2) (TRef.of (T := ⟨S4096x1, .i32⟩) main_call2_v3) addi,
    TRef.ternary (TRef.of (T := ⟨S4096x1, .i1⟩) main_call2_v1) (TRef.of (T := ⟨S4096x1, .i32⟩) main_call2_v3) (TRef.of (T := ⟨S4096x1, .i32⟩) main_v4) (TRef.of (T := ⟨S4096x1, .i32⟩) main_call2_v4) select,
    TRef.reshape (TRef.of (T := ⟨S4096x1, .i32⟩) main_call2_v4) (TRef.of (T := ⟨S4096x1x1, .i32⟩) main_call2_v5) (rfl : (.i32 : EltTy) = .i32) shapeCasts_S4096x1_S4096x1x1,
    TRef.nullary (TRef.of (T := ⟨S1, .i32⟩) main_call2_c_1) (constantI S1 32 99#32),
    TRef.nullary (TRef.of (T := ⟨S_, .i32⟩) main_call2_c_2) (constantI S_ 32 0#32),
    TRef.unary (TRef.of (T := ⟨S_, .i32⟩) main_call2_c_2) (TRef.of (T := ⟨S4096x1x1, .i32⟩) main_call2_v6) (broadcastInDim S4096x1x1 ![] bcast_S_S4096x1x1),
    TRef.binary (TRef.of (T := ⟨S4096x1x1, .i32⟩) main_call2_v5) (TRef.of (T := ⟨S4096x1x1, .i32⟩) main_call2_v6) (TRef.of (T := ⟨S4096x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S4096x1x1, .i32⟩) main_call2_v9) (broadcastInDim S4096x1x1 ![0, 1, 2] bcast_S1x1x1_S4096x1x1_0_1_2),
    TRef.binary (TRef.of (T := ⟨S4096x1x1, .i32⟩) main_call2_v5) (TRef.of (T := ⟨S4096x1x1, .i32⟩) main_call2_v9) (TRef.of (T := ⟨S4096x1x1, .i1⟩) main_call2_v10) (cmpi .sle),
    TRef.binary (TRef.of (T := ⟨S4096x1x1, .i1⟩) main_call2_v7) (TRef.of (T := ⟨S4096x1x1, .i1⟩) main_call2_v10) (TRef.of (T := ⟨S4096x1x1, .i1⟩) main_call2_v11) andi,
    TRef.nullary (TRef.of (T := ⟨S_, .i1⟩) main_call2_c_3) (constantI S_ 1 1#1),
    TRef.binary (TRef.of (T := ⟨S4096x1x1, .i1⟩) main_call2_v11) (TRef.of (T := ⟨S_, .i1⟩) main_call2_c_3) (TRef.of (T := ⟨S4096x1, .i1⟩) main_call2_v12) (fun x v => Host.reduce IntOp.andi x v reducesTo_S4096x1x1_S4096x1_d2 h_S_),
    TRef.binary (TRef.of (T := ⟨S4096x100, .f32⟩) main_v3) (TRef.of (T := ⟨S4096x1x1, .i32⟩) main_call2_v5) (TRef.of (T := ⟨S4096x1, .f32⟩) main_call2_v13) (fun x i => Host.gather gather_S4096x100_S4096x1x1_S4096x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S4096x1, .f32⟩) main_call2_v14) (broadcastInDim S4096x1 ![] bcast_S_S4096x1),
    TRef.ternary (TRef.of (T := ⟨S4096x1, .i1⟩) main_call2_v12) (TRef.of (T := ⟨S4096x1, .f32⟩) main_call2_v13) (TRef.of (T := ⟨S4096x1, .f32⟩) main_call2_v14) (TRef.of (T := ⟨S4096x1, .f32⟩) main_v5) select,
    nullary main_cst (constant S_ .f32 0x00000000#32),
    binary main_v5 main_cst main_v6 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_0 (constant S_ .f32 0x45800000#32),
    binary main_v6 main_cst_0 main_v7 (Host.divf : (⟨S_, .f32⟩ : BufTy).Contents (Elt F) → (⟨S_, .f32⟩ : BufTy).Contents (Elt F) → (⟨S_, .f32⟩ : BufTy).Contents (Elt F)),
    unary main_v7 main_v8 (Host.negf : (⟨S_, .f32⟩ : BufTy).Contents (Elt F) → (⟨S_, .f32⟩ : BufTy).Contents (Elt F)),
    nullary main_cst_1 (constant S_ .f32 0x3F000000#32),
    binary main_cst_1 main_v8 main_v9 (mulf : (⟨S_, .f32⟩ : BufTy).Contents (Elt F) → (⟨S_, .f32⟩ : BufTy).Contents (Elt F) → (⟨S_, .f32⟩ : BufTy).Contents (Elt F)),
    unary main_arg1 main_v10 ((extractStridedSlice S1x4096x100 ![1, 0, 0] · slices_S2x4096x100_S1x4096x100_1_0_0) : (⟨S2x4096x100, .f32⟩ : BufTy).Contents (Elt F) → (⟨S1x4096x100, .f32⟩ : BufTy).Contents (Elt F)),
    reshape main_v10 main_v11 (rfl : (.f32 : EltTy) = .f32) shapeCasts_S1x4096x100_S4096x100,
    TRef.nullary (TRef.of (T := ⟨S_, .f32⟩) main_call3_cst) (constant S_ .f32 0xFF800000#32),
    TRef.binary (TRef.of (T := ⟨S4096x100, .f32⟩) main_v11) (TRef.of (T := ⟨S_, .f32⟩) main_call3_cst) (TRef.of (T := ⟨S4096, .f32⟩) main_call3_v0) (fun x v => Host.reduce FloatOps.maximumf x v reducesTo_S4096x100_S4096_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S4096, .f32⟩) main_call3_v1) (broadcastInDim S4096 ![] bcast_S_S4096),
    TRef.binary (TRef.of (T := ⟨S4096, .f32⟩) main_call3_v1) (TRef.of (T := ⟨S4096, .f32⟩) main_call3_v0) (TRef.of (T := ⟨S4096, .f32⟩) main_call3_v2) maximumf,
    TRef.unary (TRef.of (T := ⟨S4096, .f32⟩) main_call3_v2) (TRef.of (T := ⟨S4096x1, .f32⟩) main_call3_v3) (broadcastInDim S4096x1 ![0] bcast_S4096_S4096x1_0),
    TRef.unary (TRef.of (T := ⟨S4096x1, .f32⟩) main_call3_v3) (TRef.of (T := ⟨S4096x100, .f32⟩) main_call3_v4) (broadcastInDim S4096x100 ![0, 1] bcast_S4096x1_S4096x100_0_1),
    TRef.binary (TRef.of (T := ⟨S4096x100, .f32⟩) main_v11) (TRef.of (T := ⟨S4096x100, .f32⟩) main_call3_v4) (TRef.of (T := ⟨S4096x100, .f32⟩) main_call3_v5) subf,
    TRef.unary (TRef.of (T := ⟨S4096x100, .f32⟩) main_call3_v5) (TRef.of (T := ⟨S4096x100, .f32⟩) main_call3_v6) Host.exp,
    TRef.nullary (TRef.of (T := ⟨S_, .f32⟩) main_call3_cst_1) (constant S_ .f32 0x00000000#32),
    TRef.binary (TRef.of (T := ⟨S4096x100, .f32⟩) main_call3_v6) (TRef.of (T := ⟨S_, .f32⟩) main_call3_cst_1) (TRef.of (T := ⟨S4096, .f32⟩) main_call3_v7) (fun x v => Host.reduceAdd x v reducesTo_S4096x100_S4096_d1 h_S_),
    TRef.unary (TRef.of (T := ⟨S4096, .f32⟩) main_call3_v7) (TRef.of (T := ⟨S4096x1, .f32⟩) main_call3_v8) (broadcastInDim S4096x1 ![0] bcast_S4096_S4096x1_0),
    TRef.unary (TRef.of (T := ⟨S4096x1, .f32⟩) main_call3_v8) (TRef.of (T := ⟨S4096x1, .f32⟩) main_call3_v9) Host.log,
    TRef.unary (TRef.of (T := ⟨S4096x1, .f32⟩) main_call3_v9) (TRef.of (T := ⟨S4096x100, .f32⟩) main_call3_v10) (broadcastInDim S4096x100 ![0, 1] bcast_S4096x1_S4096x100_0_1),
    TRef.binary (TRef.of (T := ⟨S4096x100, .f32⟩) main_call3_v5) (TRef.of (T := ⟨S4096x100, .f32⟩) main_call3_v10) (TRef.of (T := ⟨S4096x100, .f32⟩) main_v12) subf,
    unary main_v0 main_v13 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S4096x1, .i32⟩) main_call4_v0) (broadcastInDim S4096x1 ![] bcast_S_S4096x1),
    TRef.binary (TRef.of (T := ⟨S4096x1, .i32⟩) main_v13) (TRef.of (T := ⟨S4096x1, .i32⟩) main_call4_v0) (TRef.of (T := ⟨S4096x1, .i1⟩) main_call4_v1) (cmpi .slt),
    TRef.nullary (TRef.of (T := ⟨S_, .i32⟩) main_call4_c_0) (constantI S_ 32 100#32),
    TRef.unary (TRef.of (T := ⟨S_, .i32⟩) main_call4_c_0) (TRef.of (T := ⟨S4096x1, .i32⟩) main_call4_v2) (broadcastInDim S4096x1 ![] bcast_S_S4096x1),
    TRef.binary (TRef.of (T := ⟨S4096x1, .i32⟩) main_v13) (TRef.of (T := ⟨S4096x1, .i32⟩) main_call4_v2) (TRef.of (T := ⟨S4096x1, .i32⟩) main_call4_v3) addi,
    TRef.ternary (TRef.of (T := ⟨S4096x1, .i1⟩) main_call4_v1) (TRef.of (T := ⟨S4096x1, .i32⟩) main_call4_v3) (TRef.of (T := ⟨S4096x1, .i32⟩) main_v13) (TRef.of (T := ⟨S4096x1, .i32⟩) main_call4_v4) select,
    TRef.reshape (TRef.of (T := ⟨S4096x1, .i32⟩) main_call4_v4) (TRef.of (T := ⟨S4096x1x1, .i32⟩) main_call4_v5) (rfl : (.i32 : EltTy) = .i32) shapeCasts_S4096x1_S4096x1x1,
    TRef.nullary (TRef.of (T := ⟨S1, .i32⟩) main_call4_c_1) (constantI S1 32 99#32),
    TRef.nullary (TRef.of (T := ⟨S_, .i32⟩) main_call4_c_2) (constantI S_ 32 0#32),
    TRef.unary (TRef.of (T := ⟨S_, .i32⟩) main_call4_c_2) (TRef.of (T := ⟨S4096x1x1, .i32⟩) main_call4_v6) (broadcastInDim S4096x1x1 ![] bcast_S_S4096x1x1),
    TRef.binary (TRef.of (T := ⟨S4096x1x1, .i32⟩) main_call4_v5) (TRef.of (T := ⟨S4096x1x1, .i32⟩) main_call4_v6) (TRef.of (T := ⟨S4096x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S4096x1x1, .i32⟩) main_call4_v9) (broadcastInDim S4096x1x1 ![0, 1, 2] bcast_S1x1x1_S4096x1x1_0_1_2),
    TRef.binary (TRef.of (T := ⟨S4096x1x1, .i32⟩) main_call4_v5) (TRef.of (T := ⟨S4096x1x1, .i32⟩) main_call4_v9) (TRef.of (T := ⟨S4096x1x1, .i1⟩) main_call4_v10) (cmpi .sle),
    TRef.binary (TRef.of (T := ⟨S4096x1x1, .i1⟩) main_call4_v7) (TRef.of (T := ⟨S4096x1x1, .i1⟩) main_call4_v10) (TRef.of (T := ⟨S4096x1x1, .i1⟩) main_call4_v11) andi,
    TRef.nullary (TRef.of (T := ⟨S_, .i1⟩) main_call4_c_3) (constantI S_ 1 1#1),
    TRef.binary (TRef.of (T := ⟨S4096x1x1, .i1⟩) main_call4_v11) (TRef.of (T := ⟨S_, .i1⟩) main_call4_c_3) (TRef.of (T := ⟨S4096x1, .i1⟩) main_call4_v12) (fun x v => Host.reduce IntOp.andi x v reducesTo_S4096x1x1_S4096x1_d2 h_S_),
    TRef.binary (TRef.of (T := ⟨S4096x100, .f32⟩) main_v12) (TRef.of (T := ⟨S4096x1x1, .i32⟩) main_call4_v5) (TRef.of (T := ⟨S4096x1, .f32⟩) main_call4_v13) (fun x i => Host.gather gather_S4096x100_S4096x1x1_S4096x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S4096x1, .f32⟩) main_call4_v14) (broadcastInDim S4096x1 ![] bcast_S_S4096x1),
    TRef.ternary (TRef.of (T := ⟨S4096x1, .i1⟩) main_call4_v12) (TRef.of (T := ⟨S4096x1, .f32⟩) main_call4_v13) (TRef.of (T := ⟨S4096x1, .f32⟩) main_call4_v14) (TRef.of (T := ⟨S4096x1, .f32⟩) main_v14) select,
    nullary main_cst_2 (constant S_ .f32 0x00000000#32),
    binary main_v14 main_cst_2 main_v15 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_3 (constant S_ .f32 0x45800000#32),
    binary main_v15 main_cst_3 main_v16 (Host.divf : (⟨S_, .f32⟩ : BufTy).Contents (Elt F) → (⟨S_, .f32⟩ : BufTy).Contents (Elt F) → (⟨S_, .f32⟩ : BufTy).Contents (Elt F)),
    unary main_v16 main_v17 (Host.negf : (⟨S_, .f32⟩ : BufTy).Contents (Elt F) → (⟨S_, .f32⟩ : BufTy).Contents (Elt F)),
    nullary main_cst_4 (constant S_ .f32 0x3F000000#32),
    binary main_cst_4 main_v17 main_v18 (mulf : (⟨S_, .f32⟩ : BufTy).Contents (Elt F) → (⟨S_, .f32⟩ : BufTy).Contents (Elt F) → (⟨S_, .f32⟩ : BufTy).Contents (Elt F)),
    binary main_v9 main_v18 main_v19 (addf : (⟨S_, .f32⟩ : BufTy).Contents (Elt F) → (⟨S_, .f32⟩ : BufTy).Contents (Elt F) → (⟨S_, .f32⟩ : BufTy).Contents (Elt F)),
    nullary main_c (constantI S_ 32 0#32),
    unary main_c main_v20 (broadcastInDim S4096 ![] bcast_S_S4096 : (⟨S_, .i32⟩ : BufTy).Contents (Elt F) → (⟨S4096, .i32⟩ : BufTy).Contents (Elt F)),
    binary main_v0 main_v20 main_v21 (cmpi .slt : (⟨S4096, .i32⟩ : BufTy).Contents (Elt F) → (⟨S4096, .i32⟩ : BufTy).Contents (Elt F) → (⟨S4096, .i1⟩ : BufTy).Contents (Elt F)),
    nullary main_c_5 (constantI S_ 32 100#32),
    unary main_c_5 main_v22 (broadcastInDim S4096 ![] bcast_S_S4096 : (⟨S_, .i32⟩ : BufTy).Contents (Elt F) → (⟨S4096, .i32⟩ : BufTy).Contents (Elt F)),
    binary main_v0 main_v22 main_v23 (addi : (⟨S4096, .i32⟩ : BufTy).Contents (Elt F) → (⟨S4096, .i32⟩ : BufTy).Contents (Elt F) → (⟨S4096, .i32⟩ : BufTy).Contents (Elt F)),
    ternary main_v21 main_v23 main_v0 main_v24 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v24 main_v25 (broadcastInDim S4096x1 ![0] bcast_S4096_S4096x1_0 : (⟨S4096, .i32⟩ : BufTy).Contents (Elt F) → (⟨S4096x1, .i32⟩ : BufTy).Contents (Elt F)),
    binary main_arg4 main_v25 main_v26 ((fun x i => Host.gather gather_S100x64_S4096x1_S4096x64_1_0_n_n_0_1_164 x i) : (⟨S100x64, .f32⟩ : BufTy).Contents (Elt F) → (⟨S4096x1, .i32⟩ : BufTy).Contents (Elt F) → (⟨S4096x64, .f32⟩ : BufTy).Contents (Elt F)),
    unary main_arg0 main_v27 ((extractStridedSlice S1x4096x64 ![0, 0, 0] · slices_S2x4096x64_S1x4096x64_0_0_0) : (⟨S2x4096x64, .f32⟩ : BufTy).Contents (Elt F) → (⟨S1x4096x64, .f32⟩ : BufTy).Contents (Elt F)),
    reshape main_v27 main_v28 (rfl : (.f32 : EltTy) = .f32) shapeCasts_S1x4096x64_S4096x64,
    binary main_v28 main_v26 main_v29 (mulf : (⟨S4096x64, .f32⟩ : BufTy).Contents (Elt F) → (⟨S4096x64, .f32⟩ : BufTy).Contents (Elt F) → (⟨S4096x64, .f32⟩ : BufTy).Contents (Elt F)),
    nullary main_cst_6 (constant S_ .f32 0x41800000#32),
    unary main_cst_6 main_v30 (broadcastInDim S4096x64 ![] bcast_S_S4096x64 : (⟨S_, .f32⟩ : BufTy).Contents (Elt F) → (⟨S4096x64, .f32⟩ : BufTy).Contents (Elt F)),
    binary main_v30 main_v29 main_v31 (subf : (⟨S4096x64, .f32⟩ : BufTy).Contents (Elt F) → (⟨S4096x64, .f32⟩ : BufTy).Contents (Elt F) → (⟨S4096x64, .f32⟩ : BufTy).Contents (Elt F)),
    nullary main_cst_7 (constant S_ .f32 0x00000000#32),
    TRef.unary (TRef.of (T := ⟨S_, .f32⟩) main_cst_7) (TRef.of (T := ⟨S_, .f32⟩) main_call5_v0) id,
    TRef.unary (TRef.of (T := ⟨S_, .f32⟩) main_call5_v0) (TRef.of (T := ⟨S4096x64, .f32⟩) main_call5_v1) (broadcastInDim S4096x64 ![] bcast_S_S4096x64),
    TRef.binary (TRef.of (T := ⟨S4096x64, .f32⟩) main_call5_v1) (TRef.of (T := ⟨S4096x64, .f32⟩) main_v31) (TRef.of (T := ⟨S4096x64, .f32⟩) main_v32) maximumf,
    nullary main_cst_8 (constant S_ .f32 0x00000000#32),
    binary main_v32 main_cst_8 main_v33 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    nullary main_cst_9 (constant S_ .f32 0x48800000#32),
    binary main_v33 main_cst_9 main_v34 (Host.divf : (⟨S_, .f32⟩ : BufTy).Contents (Elt F) → (⟨S_, .f32⟩ : BufTy).Contents (Elt F) → (⟨S_, .f32⟩ : BufTy).Contents (Elt F)),
    unary main_arg0 main_v35 ((extractStridedSlice S1x4096x64 ![1, 0, 0] · slices_S2x4096x64_S1x4096x64_1_0_0) : (⟨S2x4096x64, .f32⟩ : BufTy).Contents (Elt F) → (⟨S1x4096x64, .f32⟩ : BufTy).Contents (Elt F)),
    reshape main_v35 main_v36 (rfl : (.f32 : EltTy) = .f32) shapeCasts_S1x4096x64_S4096x64,
    binary main_v36 main_v26 main_v37 (mulf : (⟨S4096x64, .f32⟩ : BufTy).Contents (Elt F) → (⟨S4096x64, .f32⟩ : BufTy).Contents (Elt F) → (⟨S4096x64, .f32⟩ : BufTy).Contents (Elt F)),
    nullary main_cst_10 (constant S_ .f32 0x41800000#32),
    unary main_cst_10 main_v38 (broadcastInDim S4096x64 ![] bcast_S_S4096x64 : (⟨S_, .f32⟩ : BufTy).Contents (Elt F) → (⟨S4096x64, .f32⟩ : BufTy).Contents (Elt F)),
    binary main_v38 main_v37 main_v39 (subf : (⟨S4096x64, .f32⟩ : BufTy).Contents (Elt F) → (⟨S4096x64, .f32⟩ : BufTy).Contents (Elt F) → (⟨S4096x64, .f32⟩ : BufTy).Contents (Elt F)),
    nullary main_cst_11 (constant S_ .f32 0x00000000#32),
    TRef.unary (TRef.of (T := ⟨S_, .f32⟩) main_cst_11) (TRef.of (T := ⟨S_, .f32⟩) main_call6_v0) id,
    TRef.unary (TRef.of (T := ⟨S_, .f32⟩) main_call6_v0) (TRef.of (T := ⟨S4096x64, .f32⟩) main_call6_v1) (broadcastInDim S4096x64 ![] bcast_S_S4096x64),
    TRef.binary (TRef.of (T := ⟨S4096x64, .f32⟩) main_call6_v1) (TRef.of (T := ⟨S4096x64, .f32⟩) main_v39) (TRef.of (T := ⟨S4096x64, .f32⟩) main_v40) maximumf,
    nullary main_cst_12 (constant S_ .f32 0x00000000#32),
    binary main_v40 main_cst_12 main_v41 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    nullary main_cst_13 (constant S_ .f32 0x48800000#32),
    binary main_v41 main_cst_13 main_v42 (Host.divf : (⟨S_, .f32⟩ : BufTy).Contents (Elt F) → (⟨S_, .f32⟩ : BufTy).Contents (Elt F) → (⟨S_, .f32⟩ : BufTy).Contents (Elt F)),
    unary main_arg0 main_v43 ((extractStridedSlice S1x4096x64 ![0, 0, 0] · slices_S2x4096x64_S1x4096x64_0_0_0) : (⟨S2x4096x64, .f32⟩ : BufTy).Contents (Elt F) → (⟨S1x4096x64, .f32⟩ : BufTy).Contents (Elt F)),
    reshape main_v43 main_v44 (rfl : (.f32 : EltTy) = .f32) shapeCasts_S1x4096x64_S4096x64,
    unary main_arg0 main_v45 ((extractStridedSlice S1x4096x64 ![1, 0, 0] · slices_S2x4096x64_S1x4096x64_1_0_0) : (⟨S2x4096x64, .f32⟩ : BufTy).Contents (Elt F) → (⟨S1x4096x64, .f32⟩ : BufTy).Contents (Elt F)),
    reshape main_v45 main_v46 (rfl : (.f32 : EltTy) = .f32) shapeCasts_S1x4096x64_S4096x64,
    binary main_v44 main_v46 main_v47 (sideBySide (F := F)),
    unary main_v47 main_v48 (Host.sign : (⟨S4096x128, .f32⟩ : BufTy).Contents (Elt F) → (⟨S4096x128, .f32⟩ : BufTy).Contents (Elt F)),
    nullary main_cst_14 (constant S_ .f32 0xBF800000#32),
    unary main_cst_14 main_v49 (broadcastInDim S4096x128 ![] bcast_S_S4096x128 : (⟨S_, .f32⟩ : BufTy).Contents (Elt F) → (⟨S4096x128, .f32⟩ : BufTy).Contents (Elt F)),
    binary main_v48 main_v49 main_v50 (cmpf .oeq : (⟨S4096x128, .f32⟩ : BufTy).Contents (Elt F) → (⟨S4096x128, .f32⟩ : BufTy).Contents (Elt F) → (⟨S4096x128, .i1⟩ : BufTy).Contents (Elt F)),
    unary main_v50 main_v51 (uitofp .f32 : (⟨S4096x128, .i1⟩ : BufTy).Contents (Elt F) → (⟨S4096x128, .f32⟩ : BufTy).Contents (Elt F)),
    nullary main_cst_15 (constant S_ .f32 0x00000000#32),
    binary main_v51 main_cst_15 main_v52 ((fun x v => Host.reduceAdd x v reducesTo_S4096x128_S_d0_1 h_S_) : (⟨S4096x128, .f32⟩ : BufTy).Contents (Elt F) → (⟨S_, .f32⟩ : BufTy).Contents (Elt F) → (⟨S_, .f32⟩ : BufTy).Contents (Elt F)),
    nullary main_cst_16 (constant S_ .f32 0x49800000#32),
    binary main_v52 main_cst_16 main_v53 (Host.divf : (⟨S_, .f32⟩ : BufTy).Contents (Elt F) → (⟨S_, .f32⟩ : BufTy).Contents (Elt F) → (⟨S_, .f32⟩ : BufTy).Contents (Elt F)),
    nullary main_cst_17 (constant S_ .f32 0x3F800000#32),
    unary main_cst_17 main_v54 (broadcastInDim S4096x128 ![] bcast_S_S4096x128 : (⟨S_, .f32⟩ : BufTy).Contents (Elt F) → (⟨S4096x128, .f32⟩ : BufTy).Contents (Elt F)),
    binary main_v48 main_v54 main_v55 (cmpf .oeq : (⟨S4096x128, .f32⟩ : BufTy).Contents (Elt F) → (⟨S4096x128, .f32⟩ : BufTy).Contents (Elt F) → (⟨S4096x128, .i1⟩ : BufTy).Contents (Elt F)),
    unary main_v55 main_v56 (uitofp .f32 : (⟨S4096x128, .i1⟩ : BufTy).Contents (Elt F) → (⟨S4096x128, .f32⟩ : BufTy).Contents (Elt F)),
    nullary main_cst_18 (constant S_ .f32 0x00000000#32),
    binary main_v56 main_cst_18 main_v57 ((fun x v => Host.reduceAdd x v reducesTo_S4096x128_S_d0_1 h_S_) : (⟨S4096x128, .f32⟩ : BufTy).Contents (Elt F) → (⟨S_, .f32⟩ : BufTy).Contents (Elt F) → (⟨S_, .f32⟩ : BufTy).Contents (Elt F)),
    nullary main_cst_19 (constant S_ .f32 0x49800000#32),
    binary main_v57 main_cst_19 main_v58 (Host.divf : (⟨S_, .f32⟩ : BufTy).Contents (Elt F) → (⟨S_, .f32⟩ : BufTy).Contents (Elt F) → (⟨S_, .f32⟩ : BufTy).Contents (Elt F)),
    unary main_v53 main_v59 (Host.negf : (⟨S_, .f32⟩ : BufTy).Contents (Elt F) → (⟨S_, .f32⟩ : BufTy).Contents (Elt F)),
    unary main_v53 main_v60 (Host.log : (⟨S_, .f32⟩ : BufTy).Contents (Elt F) → (⟨S_, .f32⟩ : BufTy).Contents (Elt F)),
    nullary main_cst_20 (constant S_ .f32 0x3FB8AA3B#32),
    unary main_cst_20 main_v61 (broadcastInDim S_ ![] bcast_S_S_ : (⟨S_, .f32⟩ : BufTy).Contents (Elt F) → (⟨S_, .f32⟩ : BufTy).Contents (Elt F)),
    binary main_v60 main_v61 main_v62 (mulf : (⟨S_, .f32⟩ : BufTy).Contents (Elt F) → (⟨S_, .f32⟩ : BufTy).Contents (Elt F) → (⟨S_, .f32⟩ : BufTy).Contents (Elt F)),
    binary main_v59 main_v62 main_v63 (mulf : (⟨S_, .f32⟩ : BufTy).Contents (Elt F) → (⟨S_, .f32⟩ : BufTy).Contents (Elt F) → (⟨S_, .f32⟩ : BufTy).Contents (Elt F)),
    unary main_v58 main_v64 (Host.log : (⟨S_, .f32⟩ : BufTy).Contents (Elt F) → (⟨S_, .f32⟩ : BufTy).Contents (Elt F)),
    nullary main_cst_21 (constant S_ .f32 0x3FB8AA3B#32),
    unary main_cst_21 main_v65 (broadcastInDim S_ ![] bcast_S_S_ : (⟨S_, .f32⟩ : BufTy).Contents (Elt F) → (⟨S_, .f32⟩ : BufTy).Contents (Elt F)),
    binary main_v64 main_v65 main_v66 (mulf : (⟨S_, .f32⟩ : BufTy).Contents (Elt F) → (⟨S_, .f32⟩ : BufTy).Contents (Elt F) → (⟨S_, .f32⟩ : BufTy).Contents (Elt F)),
    binary main_v58 main_v66 main_v67 (mulf : (⟨S_, .f32⟩ : BufTy).Contents (Elt F) → (⟨S_, .f32⟩ : BufTy).Contents (Elt F) → (⟨S_, .f32⟩ : BufTy).Contents (Elt F)),
    binary main_v63 main_v67 main_v68 (addf : (⟨S_, .f32⟩ : BufTy).Contents (Elt F) → (⟨S_, .f32⟩ : BufTy).Contents (Elt F) → (⟨S_, .f32⟩ : BufTy).Contents (Elt F)),
    unary main_v68 main_v69 (Host.absf : (⟨S_, .f32⟩ : BufTy).Contents (Elt F) → (⟨S_, .f32⟩ : BufTy).Contents (Elt F)),
    binary main_v34 main_v42 main_v70 (addf : (⟨S_, .f32⟩ : BufTy).Contents (Elt F) → (⟨S_, .f32⟩ : BufTy).Contents (Elt F) → (⟨S_, .f32⟩ : BufTy).Contents (Elt F)),
    nullary main_cst_22 (constant S_ .f32 0x3DCCCCCD#32),
    binary main_cst_22 main_v70 main_v71 (mulf : (⟨S_, .f32⟩ : BufTy).Contents (Elt F) → (⟨S_, .f32⟩ : BufTy).Contents (Elt F) → (⟨S_, .f32⟩ : BufTy).Contents (Elt F)),
    binary main_v19 main_v71 main_v72 (addf : (⟨S_, .f32⟩ : BufTy).Contents (Elt F) → (⟨S_, .f32⟩ : BufTy).Contents (Elt F) → (⟨S_, .f32⟩ : BufTy).Contents (Elt F)),
    nullary main_cst_23 (constant S_ .f32 0x3DCCCCCD#32),
    binary main_cst_23 main_v69 main_v73 (mulf : (⟨S_, .f32⟩ : BufTy).Contents (Elt F) → (⟨S_, .f32⟩ : BufTy).Contents (Elt F) → (⟨S_, .f32⟩ : BufTy).Contents (Elt F)),
    binary main_v72 main_v73 main_v74 (addf : (⟨S_, .f32⟩ : BufTy).Contents (Elt F) → (⟨S_, .f32⟩ : BufTy).Contents (Elt F) → (⟨S_, .f32⟩ : BufTy).Contents (Elt F)),
    reshape main_v74 main_v75 (rfl : (.f32 : EltTy) = .f32) shapeCasts_S_S1 ]

set_option maxRecDepth 8192 in
set_option maxHeartbeats 4000000 in
/-- The reference is its operations, one after another. -/
theorem main_eq (c : Dev nD) : main (F := F) c = seq ops := rfl

/-- No array of the reference lives in a scope. -/
theorem scopedRefs_eq : (Finset.univ.filter fun b : Ref sig .tc => b.isScoped) = ∅ := by decide

/-- No counter of the reference lives in a scope. -/
theorem scopedSems_eq : (Finset.univ.filter fun sm : SemLoc sig => sm.isScoped .tc) = ∅ := by decide

set_option maxRecDepth 8192 in
/-- Every operation reads and writes arrays of the reference. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub .., nullary_bufs_sub .., binary_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., binary_bufs_sub .., nullary_bufs_sub .., unary_bufs_sub .., unary_bufs_sub .., binary_bufs_sub .., nullary_bufs_sub .., binary_bufs_sub .., nullary_bufs_sub .., binary_bufs_sub .., unary_bufs_sub .., reshape_bufs_sub .., binary_bufs_sub .., nullary_bufs_sub .., unary_bufs_sub .., binary_bufs_sub .., nullary_bufs_sub .., unary_bufs_sub .., unary_bufs_sub .., binary_bufs_sub .., nullary_bufs_sub .., binary_bufs_sub .., nullary_bufs_sub .., binary_bufs_sub .., unary_bufs_sub .., reshape_bufs_sub .., unary_bufs_sub .., reshape_bufs_sub .., binary_bufs_sub .., unary_bufs_sub .., nullary_bufs_sub .., unary_bufs_sub .., binary_bufs_sub .., unary_bufs_sub .., nullary_bufs_sub .., binary_bufs_sub .., nullary_bufs_sub .., binary_bufs_sub .., nullary_bufs_sub .., unary_bufs_sub .., binary_bufs_sub .., unary_bufs_sub .., nullary_bufs_sub .., binary_bufs_sub .., nullary_bufs_sub .., binary_bufs_sub .., unary_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., unary_bufs_sub .., binary_bufs_sub .., nullary_bufs_sub .., binary_bufs_sub .., binary_bufs_sub .., nullary_bufs_sub .., binary_bufs_sub .., binary_bufs_sub .., reshape_bufs_sub ..⟩

set_option maxRecDepth 16384 in
set_option maxHeartbeats 16000000 in
/-- After all operations the result holds the loss of the arguments. -/
theorem after_result (m : (ℓ : Loc nD τ sig) → Buf (Elt F) ℓ) (c : Dev nD) :
    after ops (launchContents m c) (Proc.devRef .tc main_v75)
      = loss (m ((c.tc : Thread nD τ).loc main_arg0)) (m ((c.tc : Thread nD τ).loc main_arg1)) (m ((c.tc : Thread nD τ).loc main_arg2)) (m ((c.tc : Thread nD τ).loc main_arg4)) := by
  simp only [ops, TRef.binary, TRef.nullary, TRef.quaternary, TRef.reshape, TRef.ternary, TRef.unary, TRef.toBuf, TRef.ofBuf, cast_eq]
  after_results_simp <;> rfl

set_option maxRecDepth 8192 in
set_option maxHeartbeats 16000000 in
/-- No operation writes argument 0. -/
theorem after_arg0 (m : (ℓ : Loc nD τ sig) → Buf (Elt F) ℓ) (c : Dev nD) :
    after ops (launchContents m c) (Proc.devRef .tc main_arg0) = m ((c.tc : Thread nD τ).loc main_arg0) := by
  simp only [ops, TRef.binary, TRef.nullary, TRef.quaternary, TRef.reshape, TRef.ternary, TRef.unary, TRef.toBuf, TRef.ofBuf, cast_eq]
  after_results_simp <;> rfl

set_option maxRecDepth 8192 in
set_option maxHeartbeats 16000000 in
/-- No operation writes argument 1. -/
theorem after_arg1 (m : (ℓ : Loc nD τ sig) → Buf (Elt F) ℓ) (c : Dev nD) :
    after ops (launchContents m c) (Proc.devRef .tc main_arg1) = m ((c.tc : Thread nD τ).loc main_arg1) := by
  simp only [ops, TRef.binary, TRef.nullary, TRef.quaternary, TRef.reshape, TRef.ternary, TRef.unary, TRef.toBuf, TRef.ofBuf, cast_eq]
  after_results_simp <;> rfl

set_option maxRecDepth 8192 in
set_option maxHeartbeats 16000000 in
/-- No operation writes argument 2. -/
theorem after_arg2 (m : (ℓ : Loc nD τ sig) → Buf (Elt F) ℓ) (c : Dev nD) :
    after ops (launchContents m c) (Proc.devRef .tc main_arg2) = m ((c.tc : Thread nD τ).loc main_arg2) := by
  simp only [ops, TRef.binary, TRef.nullary, TRef.quaternary, TRef.reshape, TRef.ternary, TRef.unary, TRef.toBuf, TRef.ofBuf, cast_eq]
  after_results_simp <;> rfl

set_option maxRecDepth 8192 in
set_option maxHeartbeats 16000000 in
/-- No operation writes argument 3. -/
theorem after_arg3 (m : (ℓ : Loc nD τ sig) → Buf (Elt F) ℓ) (c : Dev nD) :
    after ops (launchContents m c) (Proc.devRef .tc main_arg3) = m ((c.tc : Thread nD τ).loc main_arg3) := by
  simp only [ops, TRef.binary, TRef.nullary, TRef.quaternary, TRef.reshape, TRef.ternary, TRef.unary, TRef.toBuf, TRef.ofBuf, cast_eq]
  after_results_simp <;> rfl

set_option maxRecDepth 8192 in
set_option maxHeartbeats 16000000 in
/-- No operation writes argument 4. -/
theorem after_arg4 (m : (ℓ : Loc nD τ sig) → Buf (Elt F) ℓ) (c : Dev nD) :
    after ops (launchContents m c) (Proc.devRef .tc main_arg4) = m ((c.tc : Thread nD τ).loc main_arg4) := by
  simp only [ops, TRef.binary, TRef.nullary, TRef.quaternary, TRef.reshape, TRef.ternary, TRef.unary, TRef.toBuf, TRef.ofBuf, cast_eq]
  after_results_simp <;> rfl

set_option maxRecDepth 8192 in
set_option maxHeartbeats 16000000 in
/-- No operation writes argument 5. -/
theorem after_arg5 (m : (ℓ : Loc nD τ sig) → Buf (Elt F) ℓ) (c : Dev nD) :
    after ops (launchContents m c) (Proc.devRef .tc main_arg5) = m ((c.tc : Thread nD τ).loc main_arg5) := by
  simp only [ops, TRef.binary, TRef.nullary, TRef.quaternary, TRef.reshape, TRef.ternary, TRef.unary, TRef.toBuf, TRef.ofBuf, cast_eq]
  after_results_simp <;> rfl

set_option maxRecDepth 8192 in
set_option maxHeartbeats 16000000 in
/-- No operation writes argument 6. -/
theorem after_arg6 (m : (ℓ : Loc nD τ sig) → Buf (Elt F) ℓ) (c : Dev nD) :
    after ops (launchContents m c) (Proc.devRef .tc main_arg6) = m ((c.tc : Thread nD τ).loc main_arg6) := by
  simp only [ops, TRef.binary, TRef.nullary, TRef.quaternary, TRef.reshape, TRef.ternary, TRef.unary, TRef.toBuf, TRef.ofBuf, cast_eq]
  after_results_simp <;> rfl

/-- From any memory with all counters at zero, the reference ends, its result is the loss of the arguments,
and the arguments stand. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = loss (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v75).trans (after_result m c),
    (h c main_arg0).trans (after_arg0 m c),
    (h c main_arg1).trans (after_arg1 m c),
    (h c main_arg2).trans (after_arg2 m c),
    (h c main_arg3).trans (after_arg3 m c),
    (h c main_arg4).trans (after_arg4 m c),
    (h c main_arg5).trans (after_arg5 m c),
    (h c main_arg6).trans (after_arg6 m c)⟩)
    (run_seq scopedRefs_eq scopedSems_eq defs main (fun _ => ops) main_eq (fun _ => ops_sub) m ρ)

/-- The frame: the reference ends, its arguments stand, and every counter is at zero, since it has none. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r h => ⟨fun c => (h c).2, sem_eq_zero_of_no_sems (by decide) r.2⟩) (run m ρ)

end Cert.ReferenceIdeal.Loss

end
-- ==== Proof.ReferenceIdeal.Labels.lean ====
module

public import proofs.«01_k».proof.Proof.ReferenceIdeal.Terms
public import proofs.«01_k».proof.Proof.Spec
public import Idealize.ShloMosaic.Lib.Pointwise
public import Idealize.ShloMosaic.Lib.Routing.Ops

@[expose] public section

set_option maxRecDepth 16384

/-!
# The reference's labels, and the entries they pick
-/

noncomputable section

namespace Cert.ReferenceIdeal.Loss

open Cert.ReferenceIdeal Cert.ReferenceIdeal.Gen Cert.Loss Idealize.ShloMosaic

/-! ### The position of the largest entry -/

/-- A pair of a number and a place, as the reference's reduction carries it. -/
abbrev Entry : Type := Ideal .f32 × BitVec 32

/-- The entry `a` is at least as good as `p`: a larger number, or the same at no later a place. -/
def Beats (a p : Entry) : Prop := (p.1 : EReal) < a.1 ∨ ((p.1 : EReal) = a.1 ∧ a.2.toInt ≤ p.2.toInt)

/-- An entry is at least as good as itself. -/
theorem beats_refl (a : Entry) : Beats a a := Or.inr ⟨rfl, le_refl _⟩

/-- At least as good as one that is at least as good. -/
theorem beats_trans {a b p : Entry} (h : Beats a b) (h' : Beats b p) : Beats a p := by
  rcases h with h | ⟨h, k⟩ <;> rcases h' with h' | ⟨h', k'⟩
  · exact Or.inl (lt_trans h' h)
  · exact Or.inl (h'.trans_lt h)
  · exact Or.inl (h'.trans_eq h)
  · exact Or.inr ⟨h'.trans h, k.trans k'⟩

/-- The reduction's body keeps one of its two entries, and that one is at least as good as both. -/
theorem reducer_spec (a b : Entry) :
    (reducer_argmax_f32_i32 (F := Ideal) a b = a ∨ reducer_argmax_f32_i32 (F := Ideal) a b = b) ∧
      Beats (reducer_argmax_f32_i32 (F := Ideal) a b) a ∧ Beats (reducer_argmax_f32_i32 (F := Ideal) a b) b := by
  obtain ⟨x, i⟩ := a
  obtain ⟨y, j⟩ := b
  have e : reducer_argmax_f32_i32 (F := Ideal) (x, i) (y, j)
      = (if (y : EReal) < x then x else y, if (y : EReal) < x ∨ ((x : EReal) = y ∧ i.toInt < j.toInt) then i else j) := by
    have c1 : FloatOps.cmpf (F := Ideal) (φ := .f32) .ogt x y = BitVec.ofBool (decide ((y : EReal) < x)) := rfl
    have c2 : FloatOps.cmpf (F := Ideal) (φ := .f32) .une x x = BitVec.ofBool (decide ((x : EReal) ≠ x)) := rfl
    have c3 : FloatOps.cmpf (F := Ideal) (φ := .f32) .oeq x y = BitVec.ofBool (decide ((x : EReal) = y)) := rfl
    have c4 : IntOp.cmpi .slt i j = BitVec.ofBool (decide (i.toInt < j.toInt)) := by
      show BitVec.ofBool (i.slt j) = _
      rw [BitVec.slt_eq_decide]
    unfold reducer_argmax_f32_i32
    simp only [c1, c2, c3, c4, ne_eq, not_true_eq_false, decide_false]
    by_cases h1 : (y : EReal) < x <;> by_cases h2 : (x : EReal) = y <;> by_cases h3 : i.toInt < j.toInt <;>
      simp [h1, h2, h3, IntOp.ori, IntOp.andi, Scalar.select]
  rw [e]
  rcases lt_trichotomy (x : EReal) y with h | h | h
  · rw [if_neg h.not_gt, if_neg (by rintro (k | ⟨k, _⟩); exacts [h.not_gt k, h.ne k])]
    exact ⟨Or.inr rfl, Or.inl h, beats_refl _⟩
  · have hx : x = y := h
    subst hx
    rw [if_neg (lt_irrefl _)]
    by_cases k : i.toInt < j.toInt
    · rw [if_pos (Or.inr ⟨rfl, k⟩)]
      exact ⟨Or.inl rfl, beats_refl _, Or.inr ⟨rfl, k.le⟩⟩
    · rw [if_neg (by rintro (k' | ⟨_, k'⟩); exacts [lt_irrefl _ k', k k'])]
      exact ⟨Or.inr rfl, Or.inr ⟨rfl, not_lt.1 k⟩, beats_refl _⟩
  · rw [if_pos h, if_pos (Or.inl h)]
    exact ⟨Or.inl rfl, beats_refl _, Or.inl h⟩

/-- The reduction over a list ends at the initial entry or one of the list's, at least as good as all of them. -/
theorem foldl_spec (L : List Entry) (b : Entry) :
    (L.foldl (reducer_argmax_f32_i32 (F := Ideal)) b = b ∨ L.foldl (reducer_argmax_f32_i32 (F := Ideal)) b ∈ L) ∧
      Beats (L.foldl (reducer_argmax_f32_i32 (F := Ideal)) b) b ∧
      ∀ p ∈ L, Beats (L.foldl (reducer_argmax_f32_i32 (F := Ideal)) b) p := by
  induction L generalizing b with
  | nil => exact ⟨Or.inl rfl, beats_refl _, fun p hp => absurd hp List.not_mem_nil⟩
  | cons q L ih =>
    rw [List.foldl_cons]
    obtain ⟨h1, h2, h3⟩ := ih (reducer_argmax_f32_i32 (F := Ideal) b q)
    obtain ⟨k1, k2, k3⟩ := reducer_spec b q
    refine ⟨?_, beats_trans h2 k2, fun p hp => ?_⟩
    · rcases h1 with h1 | h1
      · rw [h1]
        rcases k1 with k1 | k1
        · exact Or.inl k1
        · exact Or.inr (by rw [k1]; exact List.mem_cons_self)
      · exact Or.inr (List.mem_cons_of_mem _ h1)
    · rcases List.mem_cons.1 hp with rfl | hp
      · exact beats_trans h2 k3
      · exact h3 p hp

/-- The reduction over the entries of a row, from minus infinity at place zero, ends at the first place of the row's largest
number. -/
theorem foldl_first (f : Fin 100 → EReal) (L : List Entry)
    (h1 : ∀ p ∈ L, ∃ j : Fin 100, p = (f j, BitVec.ofNat 32 j.val)) (h2 : ∀ j : Fin 100, (f j, BitVec.ofNat 32 j.val) ∈ L) :
    (L.foldl (reducer_argmax_f32_i32 (F := Ideal)) ((⊥ : EReal), 0#32)).2 = BitVec.ofNat 32 (first f).val := by
  obtain ⟨k1, k2, k3⟩ := foldl_spec L ((⊥ : EReal), 0#32)
  obtain ⟨s1, s2⟩ := first_spec f
  have k := k3 _ (h2 (first f))
  generalize L.foldl (reducer_argmax_f32_i32 (F := Ideal)) ((⊥ : EReal), 0#32) = a at k1 k2 k3 k
  rcases k1 with rfl | hm
  · have ht : f (first f) = ⊥ := by
      rcases k with k | ⟨k, _⟩
      · exact absurd k not_lt_bot
      · exact k
    have h0 : f 0 = top f := le_antisymm (le_top f 0) (by rw [← s1, ht]; exact bot_le)
    have : first f = 0 := le_antisymm (s2 0 h0) (Fin.zero_le _)
    rw [this]
    rfl
  · obtain ⟨j, rfl⟩ := h1 a hm
    have hj : f j = top f := by
      rcases k with k | ⟨k, _⟩
      · exact absurd (lt_of_lt_of_le k (le_top f j)) (by rw [s1]; exact lt_irrefl _)
      · exact (show f (first f) = f j from k) ▸ s1
    have h : first f ≤ j := s2 j hj
    have h' : j.val ≤ (first f).val := by
      rcases k with k | ⟨_, k⟩
      · exact absurd (show f (first f) < f j from k) (by rw [s1, hj]; exact lt_irrefl _)
      · have k' : (BitVec.ofNat 32 j.val).toInt ≤ (BitVec.ofNat 32 (first f).val).toInt := k
        rw [toInt_ofNat (by omega), toInt_ofNat (by omega)] at k'
        exact_mod_cast k'
    rw [show j = first f from Fin.ext (le_antisymm h' h)]

/-- The targets of a sample, as a row of numbers. -/
def rowOf (t : Arr Ideal S4096x100 .f32) (r : Fin 4096) : Fin 100 → EReal := fun j => t (ix2 r j)

/-- A sample's label is the first place of the largest of its targets. -/
theorem labels_apply (t : Arr Ideal S4096x100 .f32) (r : Fin 4096) :
    labels t (ix1 r) = BitVec.ofNat 32 (first (rowOf t r)).val := by
  unfold labels
  rw [Ideal.argReduce_eq_reduce2, Host.reduce2_eq_foldl_fiber]
  rw [show constant (F := Ideal) S_ .f32 0xFF800000#32 (Shape.Idx.first h_S_) = (⊥ : EReal) from ofBits_bot,
    show constantI S_ 32 0#32 (Shape.Idx.first h_S_) = 0#32 from rfl]
  refine foldl_first (rowOf t r) _ (fun p hp => ?_) fun j => ?_
  · obtain ⟨n, hn, rfl⟩ := List.mem_map.1 hp
    have hd := of_decide_eq_true (List.mem_filter.1 hn).2
    generalize S4096x100.rowMajor.symm n = i at hd ⊢
    obtain ⟨a, b, rfl⟩ : ∃ (a : Fin 4096) (b : Fin 100), i = ix2 a b := ⟨i 0, i 1, eq_ix2 i⟩
    have ha : a = r := by
      have := congrArg (fun q : S4096.Idx => (q 0).val) hd
      dsimp only at this
      rw [Shape.ReducesTo.drop_apply_val_of_eq reducesTo_S4096x100_S4096_d1 (ix2 a b) 0 0] at this
      exact Fin.ext this
    subst ha
    exact ⟨b, rfl⟩
  · refine List.mem_map.2 ⟨S4096x100.rowMajor (ix2 r j), List.mem_filter.2 ⟨List.mem_finRange _, decide_eq_true ?_⟩, ?_⟩
    · rw [Equiv.symm_apply_apply]
      funext b
      obtain rfl : b = 0 := Subsingleton.elim _ _
      refine Fin.ext ?_
      rw [Shape.ReducesTo.drop_apply_val_of_eq reducesTo_S4096x100_S4096_d1 (ix2 r j) 0 0]
      rfl
    · rw [Equiv.symm_apply_apply]
      rfl

/-! ### The picked entries -/

/-- A label is not negative, so it is taken as it is. -/
theorem select_label : ∀ l : Fin 100, Scalar.select (IntOp.cmpi .slt (BitVec.ofNat 32 l.val) 0#32)
    (IntOp.addi (BitVec.ofNat 32 l.val) 100#32) (BitVec.ofNat 32 l.val) = BitVec.ofNat 32 l.val := by
  decide +kernel

/-- A label lies in the row. -/
theorem label_in_row : ∀ l : Fin 100, IntOp.andi (IntOp.cmpi .sge (BitVec.ofNat 32 l.val) 0#32)
    (IntOp.cmpi .sle (BitVec.ofNat 32 l.val) 99#32) = 1#1 := by
  decide +kernel

/-- The place of a sample's label. -/
theorem places_apply (l : Arr Ideal S4096 .i32) (r : Fin 4096) (b : Fin 100) (hb : l (ix1 r) = BitVec.ofNat 32 b.val) :
    places (F := Ideal) l (ix3 r 0 0) = BitVec.ofNat 32 b.val := by
  pointwise [places]
  rw [hb, select_label]

/-- A label's place is in the row. -/
theorem inRow_apply (w : Arr Ideal S4096x1x1 .i32) (r : Fin 4096) (b : Fin 100) (hb : w (ix3 r 0 0) = BitVec.ofNat 32 b.val) :
    inRow (F := Ideal) w (ix2 r 0) = 1#1 := by
  pointwise [inRow]
  rw [Finset.univ_unique, Finset.fold_singleton]
  show IntOp.andi (IntOp.andi (IntOp.cmpi .sge (w (ix3 r 0 0)) 0#32) (IntOp.cmpi .sle (w (ix3 r 0 0)) 99#32)) 1#1 = 1#1
  rw [hb, label_in_row]
  decide

/-- Picking one entry of every row: the row is the same, the column the picked one. -/
theorem pick_apply {α : Type} (x : S4096x100.Idx → α) (w : IVec S4096x1x1 32) (r : Fin 4096) (b : Fin 100)
    (hb : w (ix3 r 0 0) = BitVec.ofNat 32 b.val) :
    Host.gather gather_S4096x100_S4096x1x1_S4096x1_n_1_0_0_1_2_11 x w (ix2 r 0) = x (ix2 r b) := by
  set d := gather_S4096x100_S4096x1x1_S4096x1_n_1_0_0_1_2_11 with hd
  have hbl := b.isLt
  unfold Host.gather
  refine congrArg x (funext fun a => Fin.ext ?_)
  show d.start (ix2 r 0) w a + d.batchCoord (ix2 r 0) a + d.offCoord (ix2 r 0) a = _
  have ha : a = 0 ∨ a = 1 := by
    match a with
    | ⟨0, _⟩ => exact Or.inl rfl
    | ⟨1, _⟩ => exact Or.inr rfl
  rcases ha with rfl | rfl
  · rw [d.start_batching _ _ _ (List.mem_singleton.2 rfl),
      d.offCoord_eq_zero _ _ fun h => ((d.mem_sKept _).1 h).2 (List.mem_singleton.2 rfl), Nat.zero_add, Nat.add_zero]
    unfold GatherDims.batchCoord
    rw [dif_pos (show (0 : Fin 2) ∈ d.operandBatchingDims from List.mem_singleton.2 rfl)]
    rfl
  · rw [d.batchCoord_eq_zero _ _ fun h => by simp [hd, gather_S4096x100_S4096x1x1_S4096x1_n_1_0_0_1_2_11] at h,
      d.offCoord_eq_zero _ _ fun h => ((d.mem_sKept _).1 h).1 (List.mem_singleton.2 rfl)]
    unfold GatherDims.start
    rw [dif_pos (show (1 : Fin 2) ∈ d.startIndexMap from List.mem_singleton.2 rfl)]
    have hs : d.siIdx (ix2 r 0) ⟨d.startIndexMap.idxOf (1 : Fin 2),
        List.idxOf_lt_length_iff.2 (List.mem_singleton.2 rfl)⟩ = ix3 r 0 0 := by
      funext q
      refine Fin.ext ?_
      match q with
      | ⟨0, _⟩ => rfl
      | ⟨1, _⟩ => rfl
      | ⟨2, _⟩ => rfl
    erw [hs]
    rw [hb, toInt_ofNat (by omega)]
    show min ((b.val : ℤ)).toNat (100 - 1) + 0 + 0 = b.val
    omega

/-- The picked entry of a row. -/
theorem entryAt_apply (y : Arr Ideal S4096x100 .f32) (w : Arr Ideal S4096x1x1 .i32) (r : Fin 4096) (b : Fin 100)
    (hb : w (ix3 r 0 0) = BitVec.ofNat 32 b.val) : entryAt y w (ix2 r 0) = y (ix2 r b) := by
  pointwise [entryAt]
  rw [inRow_apply w r b hb, pick_apply y w r b hb]
  rfl

/-- A sample's target vector is the row its label names. -/
theorem targetRows_apply (v : Arr Ideal S100x64 .f32) (l : Arr Ideal S4096 .i32) (r : Fin 4096) (k : Fin 64) (b : Fin 100)
    (hb : l (ix1 r) = BitVec.ofNat 32 b.val) : targetRows v l (ix2 r k) = v (ix2 b k) := by
  unfold targetRows
  refine Routing.gather_row _ rfl rfl rfl rfl rfl v _ r k b ?_ (by omega)
  pointwise []
  rw [hb, select_label]

end Cert.ReferenceIdeal.Loss

end
-- ==== Proof.ReferenceIdeal.Value.lean ====
module

public import proofs.«01_k».proof.Proof.ReferenceIdeal.Labels

@[expose] public section

set_option maxRecDepth 16384

/-!
# The reference's result is the loss of all samples
-/

noncomputable section

namespace Cert.ReferenceIdeal.Loss

open Cert.ReferenceIdeal Cert.ReferenceIdeal.Gen Cert.Loss Idealize.ShloMosaic

/-- The logarithm of the softmax, at an entry of a bounded row, is the negated cross entropy against that entry. -/
theorem logSoftmax_apply (y : Arr Ideal S4096x100 .f32) (r : Fin 4096) (hy : Bounded (rowOf y r)) (j : Fin 100) :
    logSoftmax y (ix2 r j) = -entropy (rowOf y r) j := by
  pointwise [logSoftmax, shifted]
  refine Eq.trans ?_ (hy.neg_entropy j)
  show rowOf y r j - max (Ideal.ofBits .f32 0xFF800000#32) (top (rowOf y r))
      - Ideal.log (∑ i, Ideal.exp (rowOf y r i - max (Ideal.ofBits .f32 0xFF800000#32) (top (rowOf y r)))) = _
  rw [ofBits_bot, max_eq_right bot_le]

/-- The mean cross entropy of one head. -/
theorem crossEntropy_apply (y t : Arr Ideal S4096x100 .f32) (hy : ∀ r, Bounded (rowOf y r)) :
    crossEntropy y (labels t) ix0 = Ideal.div (crossSum (rowOf y) (rowOf t)) (Ideal.ofBits .f32 0x45800000#32) := by
  pointwise [crossEntropy]
  refine Eq.trans ?_ (neg_div_neg count_ne_zero _)
  unfold crossSum
  rw [← sum_neg Finset.univ _ fun r => (hy r).entropy_ne_bot _]
  refine congrArg (fun a => -Ideal.div a (Ideal.ofBits .f32 0x45800000#32)) (Finset.sum_congr rfl fun r _ => ?_)
  rw [Fin.sum_univ_one]
  refine (entryAt_apply _ _ r (first (rowOf t r)) (places_apply _ r _ (labels_apply t r))).trans ?_
  exact logSoftmax_apply y r (hy r) _

/-- The mean polarization loss of one head. -/
theorem polarization_apply (h : Arr Ideal S4096x64 .f32) (v : Arr Ideal S100x64 .f32) (t : Arr Ideal S4096x100 .f32) :
    polarization h (targetRows v (labels t)) ix0
      = Ideal.div (polarSum (fun r k => h (ix2 r k)) (rowOf t) fun j k => v (ix2 j k)) (Ideal.ofBits .f32 0x48800000#32) := by
  pointwise [polarization]
  unfold polarSum
  refine congrArg (fun a => Ideal.div a (Ideal.ofBits .f32 0x48800000#32))
    (Finset.sum_congr rfl fun r _ => Finset.sum_congr rfl fun k _ => ?_)
  rw [targetRows_apply v _ r k _ (labels_apply t r)]
  unfold gap
  rw [max_comm]
  exact congrArg (max _) Ideal.ofBits_zero_f32

/-- The value of a test, as a number. -/
theorem uitofp_bit (b : Bool) : FloatOps.uitofp (F := Ideal) .f32 (BitVec.ofBool b) = if b then (1 : EReal) else 0 := by
  cases b
  · show (((BitVec.ofBool false).toNat : ℝ) : EReal) = 0
    norm_num
  · show (((BitVec.ofBool true).toNat : ℝ) : EReal) = 1
    rw [show (BitVec.ofBool true).toNat = 1 by decide]
    norm_num

/-- The share of the negative hash values. -/
theorem share_negative (a b : Arr Ideal S4096x64 .f32) :
    share (Host.sign (sideBySide a b)) 0xBF800000#32 ix0
      = Ideal.div (∑ r : Fin 4096, (∑ k : Fin 64, negative (a (ix2 r k)) + ∑ k : Fin 64, negative (b (ix2 r k))))
          (Ideal.ofBits .f32 0x49800000#32) := by
  pointwise [share, sideBySide]
  simp only [uitofp_bit, decide_eq_true_eq, negative, sign_eq_neg_one]

/-- The share of the positive hash values. -/
theorem share_positive (a b : Arr Ideal S4096x64 .f32) :
    share (Host.sign (sideBySide a b)) 0x3F800000#32 ix0
      = Ideal.div (∑ r : Fin 4096, (∑ k : Fin 64, positive (a (ix2 r k)) + ∑ k : Fin 64, positive (b (ix2 r k))))
          (Ideal.ofBits .f32 0x49800000#32) := by
  pointwise [share, sideBySide]
  simp only [uitofp_bit, decide_eq_true_eq, positive, sign_eq_one]

/-- The balance of the signs. -/
theorem balance_apply (p q : Arr Ideal S_ .f32) :
    balance p q ix0 = FloatOps.absf (F := Ideal) (φ := .f32)
      ((0 - p ix0 : EReal) * Ideal.log (p ix0) * Ideal.ofBits .f32 0x3FB8AA3B#32
        + q ix0 * Ideal.log (q ix0) * Ideal.ofBits .f32 0x3FB8AA3B#32 : EReal) := by
  pointwise [balance, logTwo]
  rw [zero_sub, mul_assoc, mul_assoc]

variable (x0 : Arr Ideal S2x4096x64 .f32) (x1 : Arr Ideal S2x4096x100 .f32) (x2 : Arr Ideal S4096x100 .f32)
  (x4 : Arr Ideal S100x64 .f32)

/-- The first head's logits, at an entry. -/
theorem logits0_apply (r : Fin 4096) (j : Fin 100) : logits0 x1 (ix2 r j) = x1 (ix3 0 r j) := by
  pointwise [logits0]

/-- The second head's logits, at an entry. -/
theorem logits1_apply (r : Fin 4096) (j : Fin 100) : logits1 x1 (ix2 r j) = x1 (ix3 1 r j) := by
  pointwise [logits1]

/-- The first head's hash values, at an entry. -/
theorem hash0_apply (r : Fin 4096) (k : Fin 64) : hash0 x0 (ix2 r k) = x0 (ix3 0 r k) := by
  pointwise [hash0]

/-- The second head's hash values, at an entry. -/
theorem hash1_apply (r : Fin 4096) (k : Fin 64) : hash1 x0 (ix2 r k) = x0 (ix3 1 r k) := by
  pointwise [hash1]

/-- The reference's result is the loss of all samples, every row of logits having a finite largest entry. -/
theorem loss_apply (hx : ∀ (h : Fin 2) (r : Fin 4096), Bounded fun j => x1 (ix3 h r j)) :
    loss x0 x1 x2 x4 (ix1 0)
      = value (fun h r k => x0 (ix3 h r k)) (fun h r j => x1 (ix3 h r j)) (fun r j => x2 (ix2 r j)) fun j k => x4 (ix2 j k) := by
  have e0 : rowOf (logits0 x1) = fun r j => x1 (ix3 0 r j) := funext fun r => funext fun j => logits0_apply x1 r j
  have e1 : rowOf (logits1 x1) = fun r j => x1 (ix3 1 r j) := funext fun r => funext fun j => logits1_apply x1 r j
  pointwise [loss]
  rw [crossEntropy_apply _ _ (fun r => by rw [e0]; exact hx 0 r), crossEntropy_apply _ _ (fun r => by rw [e1]; exact hx 1 r),
    polarization_apply, polarization_apply, balance_apply, share_negative, share_positive, e0, e1]
  simp only [hash0_apply, hash1_apply]
  unfold value combine
  rw [add_div size_ne_zero (polarSum_nonneg _ _ _) (polarSum_nonneg _ _ _)]
  rfl

end Cert.ReferenceIdeal.Loss

end
-- ==== Proof.Bounded.lean ====
module

public import proofs.«01_k».proof.Pre_logits_have_max
public import proofs.«01_k».proof.Proof.Spec
public import Idealize.ShloMosaic.Lib.ReduceAll

@[expose] public section

set_option maxRecDepth 16384

/-!
# What the precondition says

Every logit is below plus infinity, and every row of logits has a largest entry above minus infinity.
-/

noncomputable section

namespace Cert.Loss

open Cert.Pre_logits_have_max Idealize.ShloMosaic

/-- The precondition's shape conditions. -/
theorem pre_facts : Cert.Pre_logits_have_max.Facts where
  bcast_S_S2x4096x100 := by decide
  reducesTo_S2x4096x100_S_d0_1_2 := by decide
  h_S_ := by decide
  reducesTo_S2x4096x100_S2x4096_d2 := by decide
  bcast_S_S2x4096 := by decide
  reducesTo_S2x4096_S_d0_1 := by decide

/-- The bits of plus infinity name the top of the extended reals. -/
theorem ofBits_top : Ideal.ofBits .f32 0x7F800000#32 = ⊤ := by
  simp [Ideal.ofBits, Ideal.ieee]

/-- A conjunction of two bits is one only if both are. -/
theorem andi_eq_one : ∀ a b : BitVec 1, IntOp.andi a b = 1#1 → a = 1#1 ∧ b = 1#1 := by decide

/-- A test whose bit is one holds. -/
theorem ofBool_eq_one {p : Prop} [Decidable p] (h : BitVec.ofBool (decide p) = 1#1) : p := by
  by_contra hp
  rw [decide_eq_false hp] at h
  exact absurd h (by decide)

/-- Under the precondition every row of logits has a finite largest entry. -/
theorem bounded_of_pre [Cert.Pre_logits_have_max.Facts] (a0 : FVec Ideal S2x4096x64 .f32) (x : FVec Ideal S2x4096x100 .f32)
    (a2 : FVec Ideal S4096x100 .f32) (a3 : IVec S4096 32) (a4 : FVec Ideal S100x64 .f32) (a5 : FVec Ideal S100000x64 .f32)
    (a6 : FVec Ideal S100000x100 .f32) (h : fn (F := Ideal) a0 x a2 a3 a4 a5 a6 = fun _ => 1#1) (i : Fin 2) (r : Fin 4096) :
    Bounded fun j => x (ix3 i r j) := by
  have h0 := congrFun h ix0
  dsimp only [fn] at h0
  obtain ⟨h1, h2⟩ := andi_eq_one _ _ h0
  have k1 := Host.reduce_andi_all _ _ _ _ _ h1
  have k2 := Host.reduce_andi_all _ _ _ _ _ h2
  refine ⟨?_, fun j => ?_⟩
  · have k := k2 (ix2 i r)
    pointwise at k
    rw [ofBits_bot] at k
    exact ofBool_eq_one k
  · have k := k1 (ix3 i r j)
    pointwise at k
    rw [ofBits_top] at k
    exact ofBool_eq_one k

end Cert.Loss

end
-- ==== Proof.lean ====
module

public import proofs.«01_k».proof.Defs
public import proofs.«01_k».proof.Proof.Kernel.Launch
public import proofs.«01_k».proof.Proof.KernelIdeal.Value
public import proofs.«01_k».proof.Proof.ReferenceIdeal.Run
public import proofs.«01_k».proof.Proof.ReferenceIdeal.Value
public import proofs.«01_k».proof.Proof.Bounded

@[expose] public section

noncomputable section

namespace Cert.Proof

open Idealize.ShloMosaic Idealize.SL.Sem

/-- The kernel runs and leaves its arguments as they were. -/
theorem kernel_frame : Cert.quiescent_Kernel (hKernel := Cert.Kernel.Gen.facts) :=
  fun m ρ _ => Cert.Kernel.Loss.frame m ρ

/-- The idealized kernel runs and leaves its arguments as they were. -/
theorem ideal_frame : Cert.quiescent_KernelIdeal (hKernelIdeal := Cert.KernelIdeal.Gen.facts) :=
  fun m ρ _ => Cert.KernelIdeal.Loss.frame m ρ

/-- So it does where every row of logits has a finite largest entry. -/
theorem ideal_frame_pre : Cert.quiescent_KernelIdeal_pre_logits_have_max (hKernelIdeal := Cert.KernelIdeal.Gen.facts)
    (hPre_logits_have_max := Cert.Loss.pre_facts) :=
  fun m ρ _ => Cert.KernelIdeal.Loss.frame m ρ

/-- The reference runs and leaves its arguments as they were. -/
theorem reference_frame : Cert.quiescent_ReferenceIdeal (hReferenceIdeal := Cert.ReferenceIdeal.Gen.facts) :=
  fun m ρ _ => Cert.ReferenceIdeal.Loss.frame m ρ

/-- So it does where every row of logits has a finite largest entry. -/
theorem reference_frame_pre : Cert.quiescent_ReferenceIdeal_pre_logits_have_max
    (hReferenceIdeal := Cert.ReferenceIdeal.Gen.facts) (hPre_logits_have_max := Cert.Loss.pre_facts) :=
  fun m ρ _ => Cert.ReferenceIdeal.Loss.frame m ρ

/-- On the kernel's arguments, every row of logits having a finite largest entry, the reference computes what the kernel
leaves in its result array. -/
theorem results_agree (m : (ℓ : Loc Cert.KernelIdeal.nD Cert.KernelIdeal.τ Cert.KernelIdeal.sig) → Buf (Elt Ideal) ℓ)
    (h : Cert.Pre_KernelIdeal_logits_have_max (hPre_logits_have_max := Cert.Loss.pre_facts) m) (c : Dev Cert.KernelIdeal.nD) :
    Cert.ReferenceIdeal.Loss.loss (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4))
      = Cert.KernelIdeal.Loss.total (Cert.KernelIdeal.Loss.sums m c 7 Cert.KernelIdeal.Loss.lastPoint.isLt
          Cert.KernelIdeal.Loss.blank) := by
  letI := Cert.Loss.pre_facts
  funext i
  obtain rfl : i = ix1 0 := funext fun a => by
    obtain rfl : a = 0 := Subsingleton.elim _ _
    exact Subsingleton.elim (α := Fin 1) _ _
  refine (Cert.ReferenceIdeal.Loss.loss_apply _ _ _ _ fun k r => ?_).trans
    (Cert.KernelIdeal.Loss.total_sums m c _ _ (ix1 0)).symm
  exact Cert.Loss.bounded_of_pre _ _ _ _ _ _ _ (h c) k r

/-- Over the extended reals the kernel and the reference, run from the same arguments, end with the same result, every row of
logits having a finite largest entry. -/
theorem algebraic : Cert.algebraic_KernelIdeal_ReferenceIdeal_pre_logits_have_max
    (hKernelIdeal := Cert.KernelIdeal.Gen.facts) (hReferenceIdeal := Cert.ReferenceIdeal.Gen.facts)
    (hPre_logits_have_max := Cert.Loss.pre_facts) := by
  intro m ρ m' ρ' hpre hargs
  refine ⟨fun c => Cert.KernelIdeal.Loss.total (Cert.KernelIdeal.Loss.sums m c 7 Cert.KernelIdeal.Loss.lastPoint.isLt
    Cert.KernelIdeal.Loss.blank), Cert.KernelIdeal.Loss.run_result m ρ, ?_⟩
  refine (θ_run _ _ _).mono (fun r hr c => ⟨(hr c).1.trans ?_, (hr c).2⟩) (Cert.ReferenceIdeal.Loss.run m' ρ')
  obtain ⟨h0, h1, h2, _, h4, _, _⟩ := hargs c
  rw [h0, h1, h2, h4]
  exact results_agree m hpre c

/-- The claims. -/
theorem claim : Cert.Claim :=
  ⟨Cert.Kernel.Gen.facts, Cert.KernelIdeal.Gen.facts, Cert.ReferenceIdeal.Gen.facts, Cert.Loss.pre_facts,
    kernel_frame, ideal_frame, ideal_frame_pre, reference_frame, reference_frame_pre, trivial, algebraic⟩

end Cert.Proof

end
